-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)) →
    ∃ (v0 : (c : Dev Cert.GateUpIdeal.nD) → Buf (Elt Ideal) ((c.tc : Thread Cert.GateUpIdeal.nD Cert.GateUpIdeal.τ).loc Cert.GateUpIdeal.main_v2_0)) (v1 : (c : Dev Cert.GateUpIdeal.nD) → Buf (Elt Ideal) ((c.tc : Thread Cert.GateUpIdeal.nD Cert.GateUpIdeal.τ).loc Cert.GateUpIdeal.main_v2_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v2_0) = v0 c
          ∧ r.2.mem ((c.tc : Thread Cert.GateUpIdeal.nD Cert.GateUpIdeal.τ).loc Cert.GateUpIdeal.main_v2_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v0_0) = v0 c
          ∧ r.2.mem ((c.tc : Thread Cert.GateUpRefIdeal.nD Cert.GateUpRefIdeal.τ).loc Cert.GateUpRefIdeal.main_v0_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0_0) = v0 c
          ∧ r.2.mem ((c.tc : Thread Cert.DownRefIdeal.nD Cert.DownRefIdeal.τ).loc Cert.DownRefIdeal.main_v0_1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
-- ==== GateUp.lean ====
abbrev S2048x8192 : Shape := ⟨2, ![2048, 8192]⟩
abbrev S2048x1 : Shape := ⟨2, ![2048, 1]⟩
abbrev S8192x3584 : Shape := ⟨2, ![8192, 3584]⟩
abbrev S3584 : Shape := ⟨1, ![3584]⟩
abbrev S1x3584 : Shape := ⟨2, ![1, 3584]⟩
abbrev S2048x3584 : Shape := ⟨2, ![2048, 3584]⟩
abbrev S1024x8192 : Shape := ⟨2, ![1024, 8192]⟩
abbrev S1024x1 : Shape := ⟨2, ![1024, 1]⟩
abbrev S8192x256 : Shape := ⟨2, ![8192, 256]⟩
abbrev S1x256 : Shape := ⟨2, ![1, 256]⟩
abbrev S1024x3584 : Shape := ⟨2, ![1024, 3584]⟩
abbrev S1024x128 : Shape := ⟨2, ![1024, 128]⟩
abbrev S1024x256 : Shape := ⟨2, ![1024, 256]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S2048x8192, .fp8e4m3⟩
  | .hbm, ⟨1, _⟩ => ⟨S2048x1, .f32⟩
  | .hbm, ⟨2, _⟩ => ⟨S8192x3584, .fp8e4m3⟩
  | .hbm, ⟨3, _⟩ => ⟨S8192x3584, .fp8e4m3⟩
  | .hbm, ⟨4, _⟩ => ⟨S3584, .f32⟩
  | .hbm, ⟨5, _⟩ => ⟨S3584, .f32⟩
  | .hbm, ⟨6, _⟩ => ⟨S1x3584, .f32⟩
  | .hbm, ⟨7, _⟩ => ⟨S1x3584, .f32⟩
  | .hbm, ⟨8, _⟩ => ⟨S2048x3584, .fp8e4m3⟩
  | .hbm, ⟨9, _⟩ => ⟨S2048x1, .f32⟩
  | .local _ .vmem, ⟨0, _⟩ => ⟨S1024x8192, .fp8e4m3⟩
  | .local _ .vmem, ⟨1, _⟩ => ⟨S1024x8192, .fp8e4m3⟩
  | .local _ .vmem, ⟨2, _⟩ => ⟨S1024x1, .f32⟩
  | .local _ .vmem, ⟨3, _⟩ => ⟨S1024x1, .f32⟩
  | .local _ .vmem, ⟨4, _⟩ => ⟨S8192x256, .fp8e4m3⟩
  | .local _ .vmem, ⟨5, _⟩ => ⟨S8192x256, .fp8e4m3⟩
  | .local _ .vmem, ⟨6, _⟩ => ⟨S8192x256, .fp8e4m3⟩
  | .local _ .vmem, ⟨7, _⟩ => ⟨S8192x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1024x3584, .fp8e4m3⟩
  | .local _ .vmem, ⟨13, _⟩ => ⟨S1024x3584, .fp8e4m3⟩
  | .local _ .vmem, ⟨14, _⟩ => ⟨S1024x1, .f32⟩
  | .local _ .vmem, ⟨15, _⟩ => ⟨S1024x1, .f32⟩
  | .local _ .vmem, ⟨16, _⟩ => ⟨S1024x3584, .f32⟩
  | .local _ .vmem, ⟨17, _⟩ => ⟨S1024x128, .f32⟩
  | _, _ => ⟨S2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 14], ![false, false]⟩

def k0_mult1 (i : grid0.Coords) : BitVec 32 :=
  let arg1 : BitVec 32 := BitVec.ofNat 32 (i 1).val
  let c256_i32 : BitVec 32 := 256#32
  let v25 : BitVec 32 := Scalar.muli arg1 c256_i32
  v25
def k0_off1 (i : grid0.Coords) : Fin 2 → Nat :=
  let c0_15 : Index := 0#32
  let arg1 : BitVec 32 := BitVec.ofNat 32 (i 1).val
  let c256_i32 : BitVec 32 := 256#32
  let v25 : BitVec 32 := Scalar.muli arg1 c256_i32
  let v26 : BitVec 32 := v25
  let v27 : Index := Scalar.indexCast v26
  ![0, v27.toNat]
def k0_cond2 (i : grid0.Coords) : BitVec 1 :=
  let arg1 : BitVec 32 := BitVec.ofNat 32 (i 1).val
  let c13_i32 : BitVec 32 := 13#32
  let v40 : BitVec 1 := Scalar.cmpi .eq arg1 c13_i32
  let v41 : BitVec 32 := Scalar.extui v40
  let c0_i32_20 : BitVec 32 := 0#32
  let v42 : BitVec 1 := Scalar.cmpi .ne v41 c0_i32_20
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== GateUpRefIdeal.lean ====
abbrev S2048x8192 : Shape := ⟨2, ![2048, 8192]⟩
abbrev S2048x1 : Shape := ⟨2, ![2048, 1]⟩
abbrev S8192x3584 : Shape := ⟨2, ![8192, 3584]⟩
abbrev S3584 : Shape := ⟨1, ![3584]⟩
abbrev S2048x3584 : Shape := ⟨2, ![2048, 3584]⟩
abbrev S1x3584 : Shape := ⟨2, ![1, 3584]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .fp8e4m3⟩
  | .hbm, ⟨1, _⟩ => ⟨S2048x1, .f32⟩
  | .hbm, ⟨2, _⟩ => ⟨S8192x3584, .fp8e4m3⟩
  | .hbm, ⟨3, _⟩ => ⟨S8192x3584, .fp8e4m3⟩
  | .hbm, ⟨4, _⟩ => ⟨S3584, .f32⟩
  | .hbm, ⟨5, _⟩ => ⟨S3584, .f32⟩
  | .hbm, ⟨6, _⟩ => ⟨S2048x3584, .fp8e4m3⟩
  | .hbm, ⟨7, _⟩ => ⟨S2048x1, .f32⟩
  | .local _ .vmem, ⟨0, _⟩ => ⟨S2048x8192, .fp8e4m3⟩
  | .local _ .vmem, ⟨1, _⟩ => ⟨S2048x1, .f32⟩
  | .local _ .vmem, ⟨2, _⟩ => ⟨S8192x3584, .fp8e4m3⟩
  | .local _ .vmem, ⟨3, _⟩ => ⟨S8192x3584, .fp8e4m3⟩
  | .local _ .vmem, ⟨4, _⟩ => ⟨S3584, .f32⟩
  | .local _ .vmem, ⟨5, _⟩ => ⟨S3584, .f32⟩
  | .local _ .vmem, ⟨6, _⟩ => ⟨S2048x3584, .fp8e4m3⟩
  | .local _ .vmem, ⟨7, _⟩ => ⟨S2048x1, .f32⟩
  | _, _ => ⟨S2048x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S2048x3584 : Shape := ⟨2, ![2048, 3584]⟩
abbrev S2048x1 : Shape := ⟨2, ![2048, 1]⟩
abbrev S3584x8192 : Shape := ⟨2, ![3584, 8192]⟩
abbrev S8192 : Shape := ⟨1, ![8192]⟩
abbrev S1x8192 : Shape := ⟨2, ![1, 8192]⟩
abbrev S2048x8192 : Shape := ⟨2, ![2048, 8192]⟩
abbrev S2048x64 : Shape := ⟨2, ![2048, 64]⟩
abbrev S1024x3584 : Shape := ⟨2, ![1024, 3584]⟩
abbrev S1024x1 : Shape := ⟨2, ![1024, 1]⟩
abbrev S3584x512 : Shape := ⟨2, ![3584, 512]⟩
abbrev S1x512 : Shape := ⟨2, ![1, 512]⟩
abbrev S1024x512 : Shape := ⟨2, ![1024, 512]⟩
abbrev S1024x64 : Shape := ⟨2, ![1024, 64]⟩
abbrev S1024x128 : Shape := ⟨2, ![1024, 128]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x3584, .fp8e4m3⟩
  | .hbm, ⟨1, _⟩ => ⟨S2048x1, .f32⟩
  | .hbm, ⟨2, _⟩ => ⟨S3584x8192, .fp8e4m3⟩
  | .hbm, ⟨3, _⟩ => ⟨S8192, .f32⟩
  | .hbm, ⟨4, _⟩ => ⟨S1x8192, .f32⟩
  | .hbm, ⟨5, _⟩ => ⟨S2048x8192, .fp8e4m3⟩
  | .hbm, ⟨6, _⟩ => ⟨S2048x64, .f32⟩
  | .local _ .vmem, ⟨0, _⟩ => ⟨S1024x3584, .fp8e4m3⟩
  | .local _ .vmem, ⟨1, _⟩ => ⟨S1024x3584, .fp8e4m3⟩
  | .local _ .vmem, ⟨2, _⟩ => ⟨S1024x1, .f32⟩
  | .local _ .vmem, ⟨3, _⟩ => ⟨S1024x1, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .fp8e4m3⟩
  | .local _ .vmem, ⟨9, _⟩ => ⟨S1024x512, .fp8e4m3⟩
  | .local _ .vmem, ⟨10, _⟩ => ⟨S1024x64, .f32⟩
  | .local _ .vmem, ⟨11, _⟩ => ⟨S1024x64, .f32⟩
  | _, _ => ⟨S2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S2048x3584 : Shape := ⟨2, ![2048, 3584]⟩
abbrev S2048x1 : Shape := ⟨2, ![2048, 1]⟩
abbrev S3584x8192 : Shape := ⟨2, ![3584, 8192]⟩
abbrev S8192 : Shape := ⟨1, ![8192]⟩
abbrev S2048x8192 : Shape := ⟨2, ![2048, 8192]⟩
abbrev S2048x64 : Shape := ⟨2, ![2048, 64]⟩
abbrev S1x8192 : Shape := ⟨2, ![1, 8192]⟩
abbrev S2048x64x128 : Shape := ⟨3, ![2048, 64, 128]⟩
abbrev S2048x64x1 : Shape := ⟨3, ![2048, 64, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x3584, .fp8e4m3⟩
  | .hbm, ⟨1, _⟩ => ⟨S2048x1, .f32⟩
  | .hbm, ⟨2, _⟩ => ⟨S3584x8192, .fp8e4m3⟩
  | .hbm, ⟨3, _⟩ => ⟨S8192, .f32⟩
  | .hbm, ⟨4, _⟩ => ⟨S2048x8192, .fp8e4m3⟩
  | .hbm, ⟨5, _⟩ => ⟨S2048x64, .f32⟩
  | .local _ .vmem, ⟨0, _⟩ => ⟨S2048x3584, .fp8e4m3⟩
  | .local _ .vmem, ⟨1, _⟩ => ⟨S2048x1, .f32⟩
  | .local _ .vmem, ⟨2, _⟩ => ⟨S3584x8192, .fp8e4m3⟩
  | .local _ .vmem, ⟨3, _⟩ => ⟨S8192, .f32⟩
  | .local _ .vmem, ⟨4, _⟩ => ⟨S2048x8192, .fp8e4m3⟩
  | .local _ .vmem, ⟨5, _⟩ => ⟨S2048x64, .f32⟩
  | _, _ => ⟨S2048x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.GateUpFrameKit.lean ====
/- What the runs of the GateUp program's body share, over machine values (its outputs forgotten), and its frame from any relational proof data. -/
module

public import proofs.«01_k».proof.Proof.Gen.GateUp.Frame
public import proofs.«01_k».proof.Proof.Gen.GateUp.Skeleton
public import proofs.«01_k».proof.Proof.Gen.GateUp.Launch
public import proofs.«01_k».proof.Proof.Gen.GateUp.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_GateUp`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 28 := Nat.lt_of_lt_of_eq t.isLt N_0
    have e0 : (grid0.coords t 0).val = t.val / 14 % 2 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 28 := Nat.lt_of_lt_of_eq t.isLt N_0
    have e0 : (grid0.coords t 0).val = t.val / 14 % 2 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x3584 .f32 := Memref.whole cc0_scratch0
abbrev scM0_1 : Memref sig .tc .vmem S1024x128 .f32 := Memref.whole cc0_scratch1
/-- The scratch `arg11` the kernel carries between points, as a view: what it holds is stated through it. -/
abbrev VS0_1 : View sig .tc .vmem S1024x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GateUp.Gen

end
-- ==== Proof.GateUpFrameRunA.lean ====
/- The run of the GateUp program's body in case A, its outputs forgotten. -/
module

public import proofs.«01_k».proof.Proof.GateUpFrameKit

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_A (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) :
    { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, fun E K => ?run⟩
  case run =>
    simp only [cc0_gate_up_eq_skeleton]; unfold cc0_gate_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _; iexact HS1

end Cert.GateUp.Gen

end
-- ==== Proof.GateUpFrameRunB.lean ====
/- The run of the GateUp program's body in case B, its outputs forgotten. -/
module

public import proofs.«01_k».proof.Proof.GateUpFrameRunA

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 26: 24 of 28), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_B (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs1 : Vec F S1024x128 .f32) :
    { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, fun E K => ?run⟩
  case run =>
    simp only [cc0_gate_up_eq_skeleton]; unfold cc0_gate_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _; iexact HS1

end Cert.GateUp.Gen

end
-- ==== Proof.GateUpFrameRunC.lean ====
/- The run of the GateUp program's body in case C, its outputs forgotten. -/
module

public import proofs.«01_k».proof.Proof.GateUpFrameRunB

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 13, 27), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs1 : Vec F S1024x128 .f32) :
    { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, fun E K => ?run⟩
  case run =>
    simp only [cc0_gate_up_eq_skeleton]; unfold cc0_gate_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _; iexact HS1

end Cert.GateUp.Gen

end
-- ==== Proof.GateUpFrame.lean ====
/- The frame of the GateUp program over machine values: its run, with the outputs forgotten. -/
module

public import proofs.«01_k».proof.Proof.GateUpFrameRunC
public import Idealize.ShloMosaic.Lib.Claim

@[expose] public section

-- membership in a rectangle of production extents (`View.cover_of_tiled`): the elaborator's structural look
-- recurses once per coordinate of the long axes
set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 2 pieces of `S1024x128` tiling it (Lib/Ring.lean `Piece.tiledL`). -/
theorem scover0_A_1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (y : S1024x128.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).1 S1024x128.size (by sl_kernel_rfl) y

/-- What case A leaves in scratch `arg11`: its pieces read back over junk. -/
def sout0_A_1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).1)

/-- Case B's pieces for scratch `arg11`, which the kernel carries between points, cover it: 1 piece of `S1024x128` tiling it (Lib/Ring.lean `Piece.tiledL`). -/
theorem scover0_B_1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs1 : Vec F S1024x128 .f32) (y : S1024x128.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs1).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs1).1 S1024x128.size (by sl_kernel_rfl) y

/-- What case B leaves in scratch `arg11`: its pieces read back over junk. -/
def sout0_B_1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs1 : Vec F S1024x128 .f32) : Vec F S1024x128 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs1).1)

/-- Case C's pieces for scratch `arg11`, which the kernel carries between points, cover it: 1 piece of `S1024x128` tiling it (Lib/Ring.lean `Piece.tiledL`). -/
theorem scover0_C_1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs1 : Vec F S1024x128 .f32) (y : S1024x128.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs1).1 S1024x128.size (by sl_kernel_rfl) y

/-- What case C leaves in scratch `arg11`: its pieces read back over junk. -/
def sout0_C_1 (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs1 : Vec F S1024x128 .f32) : Vec F S1024x128 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs1).1)

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x128 .f32
  | 0, hn => sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 14 = 0 then
      if h1 : (n + 1) % 14 = 13 then
        False.elim (by have hN : n + 1 < 28 := lt_of_lt_of_eq hn (show cfg0.N = 28 from N_0); omega)
      else
        sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      if h1 : (n + 1) % 14 = 13 then
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))
      else
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

/-- `outsAt0` at a point of case A: that case's contents. -/
theorem outsAt0_A (c : Dev nD) (t : Fin cfg0.N) (h0 : t.val % 14 = 0) (h1 : ¬t.val % 14 = 13) :
    outsAt0 m c t.val t.isLt = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 14 = 0) (h1 : ¬t.val % 14 = 13) :
    outsAt0 m c t.val t.isLt = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 14 = 0) (h1 : t.val % 14 = 13) :
    outsAt0 m c t.val t.isLt = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)))) ∗ (∃ r, prngReg c r)) := by
  cases n with
  | zero => exact absurd rfl hz
  | succ n => rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 28 := lt_of_lt_of_eq t.isLt (show cfg0.N = 28 from N_0)
  by_cases h0 : t.val % 14 = 0
  · by_cases h1 : t.val % 14 = 13
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, H6, H7, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [PhiS_castSucc m c t, PhiS_pos m c _ _ hz]
        rw [outsAt0_A m c t h0 h1]
        unfold sout0_A_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexists _; iexact HS1
        iintro ⟨H0, H1, H2, H3, H4, H5, H6, H7, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
  · by_cases h1 : t.val % 14 = 13
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 28 := lt_of_lt_of_eq t.isLt (show cfg0.N = 28 from N_0); omega
      · rw [PhiS_castSucc m c t, PhiS_pos m c _ _ hz]
        rw [outsAt0_C m c t h0 h1]
        unfold sout0_C_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, H6, H7, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 28 := lt_of_lt_of_eq t.isLt (show cfg0.N = 28 from N_0); omega
      · rw [PhiS_castSucc m c t, PhiS_pos m c _ _ hz]
        rw [outsAt0_B m c t h0 h1]
        unfold sout0_B_1
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, H6, H7, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 28 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  rframe_of m ρ (fun c => (dats m 0 c).toRForget forgets0) (A_eq m) (run_main m ρ)

/-- THE FRAME: `Cert.quiescent_GateUp`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GateUp.Gen

end
-- ==== Proof.DownFrameKit.lean ====
/- What the runs of the Down program's body share, over machine values (its outputs forgotten), and its frame from any relational proof data. -/
module

public import proofs.«01_k».proof.Proof.Gen.Down.Frame
public import proofs.«01_k».proof.Proof.Gen.Down.Skeleton
public import proofs.«01_k».proof.Proof.Gen.Down.Launch
public import proofs.«01_k».proof.Proof.Gen.Down.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Down`, Defs.lean, at any `F`). -/
theorem rframe_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S1024x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)

end Cert.Down.Gen

end
-- ==== Proof.DownFrameRunA.lean ====
/- The run of the Down program's body in case A, its outputs forgotten. -/
module

public import proofs.«01_k».proof.Proof.DownFrameKit

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (4, 5) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole)
    (x0 : Vec F S1024x3584 .fp8e4m3) (x1 : Vec F S1024x1 .f32) (x2 : Vec F S3584x512 .fp8e4m3) (x3 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)) -∗ K ⟨⟩))
          ⊢ wp frame (wpE (defs₀ (F := F)) Variants.none c none) E (cc0_down i arg2 harg2 arg3 harg3 arg4 harg4 arg5 harg5 arg6 harg6 arg7 harg7) K := by
    intro E K
    simp only [cc0_down_eq_skeleton]; unfold cc0_down_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    iexists _, _; isplitr; swap; · iexact H5
    ipureintro; rfl

end Cert.Down.Gen

end
-- ==== Proof.DownFrame.lean ====
/- The frame of the Down program over machine values: its run, with the outputs forgotten. -/
module

public import proofs.«01_k».proof.Proof.DownFrameRunA
public import Idealize.ShloMosaic.Lib.Claim

@[expose] public section

-- membership in a rectangle of production extents (`View.cover_of_tiled`): the elaborator's structural look
-- recurses once per coordinate of the long axes
set_option maxRecDepth 16384

noncomputable section

namespace Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  rframe_of m ρ (fun c => (dats m 0 c).toRForget forgets0) (A_eq m) (run_main m ρ)

/-- THE FRAME: `Cert.quiescent_Down`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Down.Gen

end
-- ==== Proof.Spec.lean ====
/- The arithmetic that the kernels and the references share, over the extended reals: one scaled entry of a matrix product, the SwiGLU of
   two such entries, the scale of a group of values (its largest absolute value over 448, or 1 if that is zero) and a value quantised by a
   scale. -/
module

public import Idealize.ShloMosaic.Lib.Pointwise

@[expose] public section

noncomputable section

namespace Cert.Spec

open Idealize.ShloMosaic

/-- The absolute value, as the programs print it. -/
abbrev absE (x : EReal) : EReal := FloatOps.absf (F := Ideal) (φ := .f32) x

/-- The largest absolute value of a family, from `-inf`. -/
def amax {n : ℕ} (f : Fin n → EReal) : EReal := Finset.univ.fold max (Ideal.ofBits FTy.f32 4286578688#32) fun k => absE (f k)

/-- The scale of a group of values whose largest absolute value is `a`. -/
def scaleOf (a : EReal) : EReal := if a = 0 then 1 else Ideal.div a (Ideal.ofBits FTy.f32 1138753536#32)

/-- The value `p` quantised by the scale `s`: `p / s` brought between -448 and 448. -/
def quant (p s : EReal) : EReal := min (Ideal.ofBits FTy.f32 1138753536#32) (max (Ideal.ofBits FTy.f32 3286237184#32) (Ideal.div p s))

/-- One entry of a product of quantised matrices, scaled by its row's and its column's scale. -/
def dotS {K : ℕ} (a w : Fin K → EReal) (x s : EReal) : EReal := (∑ k, a k * w k) * (x * s)

/-- `silu g * u`. -/
def glu (g u : EReal) : EReal := g * Ideal.logistic g * u

/-- The scale of the `g`-th group of 128 values of a row. -/
def gscale {n : ℕ} (p : Fin n → EReal) (g : ℕ) (h : g * 128 + 128 ≤ n) : EReal :=
  scaleOf (amax fun k : Fin 128 => p ⟨g * 128 + k.val, by omega⟩)

/-- Two groups of the same values have the same scale. -/
theorem gscale_congr {n n' : ℕ} {p : Fin n → EReal} {p' : Fin n' → EReal} {g g' : ℕ} (h : g * 128 + 128 ≤ n) (h' : g' * 128 + 128 ≤ n')
    (e : ∀ k : Fin 128, p ⟨g * 128 + k.val, by omega⟩ = p' ⟨g' * 128 + k.val, by omega⟩) : gscale p g h = gscale p' g' h' := by
  unfold gscale; congr 1; congr 1; exact funext e

/-- `amax` is the least upper bound of the absolute values. -/
theorem amax_le_iff {n : ℕ} (f : Fin n → EReal) (z : EReal) : amax f ≤ z ↔ ∀ k, absE (f k) ≤ z := by
  unfold amax
  rw [Finset.fold_max_le]
  have hb : Ideal.ofBits FTy.f32 4286578688#32 = ⊥ := by
    simp [Ideal.ofBits, Ideal.ieee]
  rw [hb]; simp

/-- An absolute value is not negative. -/
theorem absE_nonneg (x : EReal) : 0 ≤ absE x := by
  show 0 ≤ max x (-x)
  rcases le_total 0 x with h | h
  · exact le_max_of_le_left h
  · exact le_max_of_le_right (EReal.neg_nonneg.mpr h)

/-- The down product's entry at row `R` and column `J`, of the whole arrays: codes, row scales, codes, column scales. -/
def downAt (A : Vec Ideal ⟨2, ![2048, 3584]⟩ .fp8e4m3) (X : Vec Ideal ⟨2, ![2048, 1]⟩ .f32) (W : Vec Ideal ⟨2, ![3584, 8192]⟩ .fp8e4m3)
    (S : Vec Ideal ⟨1, ![8192]⟩ .f32) (R : Fin 2048) (J : Fin 8192) : EReal :=
  dotS (fun k : Fin 3584 => A (ix2 R k)) (fun k => W (ix2 k J)) (X (ix2 R 0)) (S (ix1 J))

/-- The gate-and-up value at row `R` and column `J`, of the whole arrays. -/
def gateUpAt (A : Vec Ideal ⟨2, ![2048, 8192]⟩ .fp8e4m3) (X : Vec Ideal ⟨2, ![2048, 1]⟩ .f32) (G U : Vec Ideal ⟨2, ![8192, 3584]⟩ .fp8e4m3)
    (SG SU : Vec Ideal ⟨1, ![3584]⟩ .f32) (R : Fin 2048) (J : Fin 3584) : EReal :=
  glu (dotS (fun k : Fin 8192 => A (ix2 R k)) (fun k => G (ix2 k J)) (X (ix2 R 0)) (SG (ix1 J)))
    (dotS (fun k : Fin 8192 => A (ix2 R k)) (fun k => U (ix2 k J)) (X (ix2 R 0)) (SU (ix1 J)))

end Cert.Spec

end
-- ==== Proof.DownRun.lean ====
/- The run of the down kernel's body at one grid point, with what its stores leave in the two outputs' buffers. -/
module

public import proofs.«01_k».proof.Proof.Gen.DownIdeal.Frame
public import proofs.«01_k».proof.Proof.Gen.DownIdeal.Skeleton
public import proofs.«01_k».proof.Proof.Gen.DownIdeal.Points

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The pieces that the body's stores leave in the output block (`LO`) and in the block of scales (`LS`, from what it found there, `x5`), with
    the proof that the body runs: the inputs' blocks are left as they were, the outputs' buffers have the pieces written. -/
noncomputable def kernelRun (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole)
    (x0 : Vec F S1024x3584 .fp8e4m3) (x1 : Vec F S1024x1 .f32) (x2 : Vec F S3584x512 .fp8e4m3) (x3 : Vec F S1x512 .f32) (x5 : Vec F S1024x64 .f32) :
    { L : List (View.Piece (Elt F) S1024x512 .fp8e4m3) × List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L.1) ∗ (arg7.view.loc (c : Thread nD τ) ↦[arg7.view.set]{fullShare} arg7.view.writes (Elt F) (harg7.unread x5) L.2)) -∗ K ⟨⟩))
          ⊢ wp frame (wpE (defs₀ (F := F)) Variants.none c none) E (cc0_down i arg2 harg2 arg3 harg3 arg4 harg4 arg5 harg5 arg6 harg6 arg7 harg7) K } := by
  refine ⟨⟨?_, ?_⟩, fun E K => ?run⟩
  case run =>
    simp only [cc0_down_eq_skeleton]; unfold cc0_down_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexact H5

end Cert.DownIdeal.Gen

end
-- ==== Proof.DownPure.lean ====
/- The values that the down kernel's body computes, at an index: the scaled product, the scale of each of the block's four groups, the
   quantised groups, and the block of scales with the four columns of this point put in. -/
module

public import proofs.«01_k».proof.Proof.Spec
public import proofs.«01_k».proof.Proof.DownRun
public import Idealize.ShloMosaic.Lib.WordCmp

@[expose] public section

set_option maxRecDepth 16384

noncomputable section

namespace Cert.DownIdeal.Gen

open Idealize.ShloMosaic Idealize.ShloMosaic.TcCoe Idealize.SL.Sem
open Cert.Spec

/-- The scaled product of a block, at a row and a column. -/
theorem pay1_at (x0 : Vec Ideal S1024x3584 .fp8e4m3) (x1 : Vec Ideal S1024x1 .f32) (x2 : Vec Ideal S3584x512 .fp8e4m3) (x3 : Vec Ideal S1x512 .f32)
    (r : Fin 1024) (l : Fin 512) :
    k0_pay1 (F := Ideal) x0 x2 x1 x3 (ix2 r l) = dotS (fun k : Fin 3584 => x0 (ix2 r k)) (fun k => x2 (ix2 k l)) (x1 (ix2 r 0)) (x3 (ix2 0 l)) := by
  unfold dotS
  pointwise [k0_pay1]

section

variable (v9 : FVec Ideal S1024x512 .f32) (r : Fin 1024)

/-- The row `r` of a block. -/
abbrev row (v9 : FVec Ideal S1024x512 .f32) (r : Fin 1024) : Fin 512 → EReal := fun l => v9 (ix2 r l)

theorem pay6_at : k0_pay6 (F := Ideal) v9 (ix2 r 0) = gscale (row v9 r) 1 (by omega) := by
  unfold gscale scaleOf amax; pointwise [k0_pay6]
theorem pay9_at : k0_pay9 (F := Ideal) v9 (ix2 r 0) = gscale (row v9 r) 2 (by omega) := by
  unfold gscale scaleOf amax; pointwise [k0_pay9]
theorem pay13_at : k0_pay13 (F := Ideal) v9 (ix2 r 0) = gscale (row v9 r) 3 (by omega) := by
  unfold gscale scaleOf amax; pointwise [k0_pay13]
theorem pay7_at (l : Fin 128) : k0_pay7 (F := Ideal) v9 (ix2 r l) = quant (row v9 r ⟨128 + l, by omega⟩) (gscale (row v9 r) 1 (by omega)) := by
  rw [← pay6_at]; unfold quant; pointwise [k0_pay7]
theorem pay12_at (l : Fin 128) : k0_pay12 (F := Ideal) (k0_pay10 v9) kernelRun.sl.cst_30 k0_pay11 (ix2 r l) = quant (row v9 r ⟨256 + l, by omega⟩) (gscale (row v9 r) 2 (by omega)) := by
  rw [← pay9_at]; unfold quant; pointwise [k0_pay12, k0_pay10, k0_pay11, kernelRun.sl.cst_30]
theorem pay14_at (l : Fin 128) : k0_pay14 (F := Ideal) v9 (ix2 r l) = quant (row v9 r ⟨384 + l, by omega⟩) (gscale (row v9 r) 3 (by omega)) := by
  rw [← pay13_at]; unfold quant; pointwise [k0_pay14]

end

section

variable (x0 : Vec Ideal S1024x3584 .fp8e4m3) (x1 : Vec Ideal S1024x1 .f32) (x2 : Vec Ideal S3584x512 .fp8e4m3) (x3 : Vec Ideal S1x512 .f32) (r : Fin 1024)

theorem pay3_at : k0_pay3 (F := Ideal) x0 x2 x1 x3 (ix2 r 0) = gscale (row (k0_pay1 (F := Ideal) x0 x2 x1 x3) r) 0 (by omega) := by
  unfold gscale scaleOf amax; pointwise [k0_pay3]
theorem pay4_at (l : Fin 128) : k0_pay4 (F := Ideal) x0 x2 x1 x3 (ix2 r l)
    = quant (row (k0_pay1 (F := Ideal) x0 x2 x1 x3) r ⟨0 + l, by omega⟩) (gscale (row (k0_pay1 (F := Ideal) x0 x2 x1 x3) r) 0 (by omega)) := by
  rw [← pay3_at]; unfold quant; pointwise [k0_pay4]

end

/-- The comparison of a column with the column of this point's group `q`. -/
theorem sel_eq {α : Type} (n l q : ℕ) (hn : n < 16) (hl : l < 64) (hq : q < 4) (x y : α) :
    Scalar.select (IntOp.cmpi CmpIPredicate.eq (BitVec.ofNat 32 l) (Scalar.addi (Scalar.muli (BitVec.ofNat 32 n) 4#32) (BitVec.ofNat 32 q))) x y
      = if l = n * 4 + q then x else y := by
  have e : (BitVec.ofNat 32 l = Scalar.addi (Scalar.muli (BitVec.ofNat 32 n) 4#32) (BitVec.ofNat 32 q)) ↔ l = n * 4 + q := by
    show (BitVec.ofNat 32 l = BitVec.ofNat 32 n * 4#32 + BitVec.ofNat 32 q) ↔ _
    rw [← BitVec.toNat_inj]
    simp only [BitVec.toNat_ofNat, BitVec.toNat_add, BitVec.toNat_mul]
    omega
  by_cases h : l = n * 4 + q
  · rw [if_pos h, ← e.mpr h]; simp [Scalar.select, IntOp.cmpi]
  · rw [if_neg h]
    have hb : (BitVec.ofNat 32 l == Scalar.addi (Scalar.muli (BitVec.ofNat 32 n) 4#32) (BitVec.ofNat 32 q)) = false :=
      beq_eq_false_iff_ne.mpr fun hh => h (e.mp hh)
    simp [Scalar.select, IntOp.cmpi, hb]

/-- The block of scales that the body stores: this point's four columns are its groups' scales, the others are as they were found. -/
theorem os_at (i : grid0.Coords) (x0 : Vec Ideal S1024x3584 .fp8e4m3) (x1 : Vec Ideal S1024x1 .f32) (x2 : Vec Ideal S3584x512 .fp8e4m3) (x3 : Vec Ideal S1x512 .f32)
    (v12 : Vec Ideal S1024x64 .f32) (r : Fin 1024) (l : Fin 64) :
    k0_pay15 (F := Ideal) (BitVec.ofNat 32 ↑(i 1)) (k0_pay1 x0 x2 x1 x3) kernelRun.sl.v10
      (k0_pay8 (BitVec.ofNat 32 ↑(i 1)) (k0_pay1 x0 x2 x1 x3) kernelRun.sl.v10 (k0_pay2 v12) (k0_pay3 x0 x2 x1 x3) (k0_pay5 i)) (k0_pay9 (k0_pay1 x0 x2 x1 x3)) (ix2 r l)
      = if h : l.val / 4 = (i 1).val then gscale (row (k0_pay1 (F := Ideal) x0 x2 x1 x3) r) (l.val % 4) (by omega) else v12 (ix2 r l) := by
  have hn : (i 1).val < 16 := (i 1).isLt
  have e : k0_pay15 (F := Ideal) (BitVec.ofNat 32 ↑(i 1)) (k0_pay1 x0 x2 x1 x3) kernelRun.sl.v10
      (k0_pay8 (BitVec.ofNat 32 ↑(i 1)) (k0_pay1 x0 x2 x1 x3) kernelRun.sl.v10 (k0_pay2 v12) (k0_pay3 x0 x2 x1 x3) (k0_pay5 i)) (k0_pay9 (k0_pay1 x0 x2 x1 x3)) (ix2 r l)
      = if l.val = (i 1).val * 4 + 3 then k0_pay13 (k0_pay1 x0 x2 x1 x3) (ix2 r 0) else
        if l.val = (i 1).val * 4 + 2 then k0_pay9 (k0_pay1 x0 x2 x1 x3) (ix2 r 0) else
        if l.val = (i 1).val * 4 + 1 then k0_pay6 (k0_pay1 x0 x2 x1 x3) (ix2 r 0) else
        if l.val = (i 1).val * 4 + 0 then k0_pay3 x0 x2 x1 x3 (ix2 r 0) else v12 (ix2 r l) := by
    rw [← sel_eq _ _ _ hn l.isLt (by omega), ← sel_eq _ _ _ hn l.isLt (by omega), ← sel_eq _ _ _ hn l.isLt (by omega), ← sel_eq _ _ _ hn l.isLt (by omega)]
    generalize k0_pay1 (F := Ideal) x0 x2 x1 x3 = v9
    generalize k0_pay3 (F := Ideal) x0 x2 x1 x3 = v22
    pointwise [k0_pay15, k0_pay8, k0_pay5, k0_pay2, kernelRun.sl.v10]
  rw [e, pay13_at, pay9_at, pay6_at, pay3_at]
  by_cases h : l.val / 4 = (i 1).val
  · rw [dif_pos h]
    have h4 : l.val % 4 < 4 := Nat.mod_lt _ (by omega)
    have hg : ∀ (q : ℕ) (hq : q < 4), l.val % 4 = q → gscale (row (k0_pay1 (F := Ideal) x0 x2 x1 x3) r) (l.val % 4) (by omega)
        = gscale (row (k0_pay1 (F := Ideal) x0 x2 x1 x3) r) q (by omega) := by rintro _ _ rfl; rfl
    obtain hq | hq | hq | hq : l.val % 4 = 0 ∨ l.val % 4 = 1 ∨ l.val % 4 = 2 ∨ l.val % 4 = 3 := by omega
    · rw [if_neg (by omega), if_neg (by omega), if_neg (by omega), if_pos (by omega), hg 0 (by omega) hq]
    · rw [if_neg (by omega), if_neg (by omega), if_pos (by omega), hg 1 (by omega) hq]
    · rw [if_neg (by omega), if_pos (by omega), hg 2 (by omega) hq]
    · rw [if_pos (by omega), hg 3 (by omega) hq]
  · rw [dif_neg h, if_neg (by omega), if_neg (by omega), if_neg (by omega), if_neg (by omega)]

end Cert.DownIdeal.Gen

end
-- ==== Proof.DownReads.lean ====
/- What the down kernel's two outputs' buffers hold after the body, at an index. -/
module

public import proofs.«01_k».proof.Proof.DownPure
public import Idealize.ShloMosaic.Lib.WritesUnit
public import Idealize.ShloMosaic.Lib.Pipeline.ValueKit

@[expose] public section

set_option maxRecDepth 16384

noncomputable section

namespace Cert.DownIdeal.Gen

open Idealize.ShloMosaic Idealize.ShloMosaic.TcCoe Idealize.SL.Sem
open Cert.Spec

section

variable (c : Dev nD) (i : grid0.Coords) (arg2 : Memref sig .tc .vmem S1024x3584 .fp8e4m3) (harg2 : arg2.IsWhole) (arg3 : Memref sig .tc .vmem S1024x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1024x512 .fp8e4m3) (harg6 : arg6.IsWhole) (arg7 : Memref sig .tc .vmem S1024x64 .f32) (harg7 : arg7.IsWhole)
    (x0 : Vec Ideal S1024x3584 .fp8e4m3) (x1 : Vec Ideal S1024x1 .f32) (x2 : Vec Ideal S3584x512 .fp8e4m3) (x3 : Vec Ideal S1x512 .f32) (x5 : Vec Ideal S1024x64 .f32)

/-- The output block, at a row and a column: the product's entry quantised by its group's scale. -/
theorem out_read (f) (r : Fin 1024) (l : Fin 512) :
    arg6.view.read (Elt Ideal) (arg6.view.writes (Elt Ideal) f (kernelRun c i arg2 harg2 arg3 harg3 arg4 harg4 arg5 harg5 arg6 harg6 arg7 harg7 x0 x1 x2 x3 x5).1.1) (ix2 r l)
      = quant (row (k0_pay1 (F := Ideal) x0 x2 x1 x3) r l) (gscale (row (k0_pay1 (F := Ideal) x0 x2 x1 x3) r) (l.val / 128) (by omega)) := by
  dsimp only [kernelRun]
  have hg : ∀ (q : ℕ) (hq : q < 4), l.val / 128 = q → gscale (row (k0_pay1 (F := Ideal) x0 x2 x1 x3) r) (l.val / 128) (by omega)
        = gscale (row (k0_pay1 (F := Ideal) x0 x2 x1 x3) r) q (by omega) := by rintro _ _ rfl; rfl
  have hl : ∀ (q : ℕ) (hq : q * 128 + 128 ≤ 512) (h : l.val / 128 = q), ∀ a : Fin 2, ((ix2 r l : S1024x512.Idx) a).val
      = (![0, q * 128] : Fin 2 → ℕ) a + ((ix2 r ⟨l.val - q * 128, by omega⟩ : S1024x128.Idx) a).val := by
    intro q hq h; refine Fin.forall_fin_two.mpr ⟨?_, ?_⟩
    · simp
    · simp; omega
  obtain hq | hq | hq | hq : l.val / 128 = 0 ∨ l.val / 128 = 1 ∨ l.val / 128 = 2 ∨ l.val / 128 = 3 := by omega
  · rw [View.read_writes_cons_unit_of_not_mem _ _ _ _ _ _ rfl (1 : Fin 2) (by simp; omega),
      View.read_writes_cons_unit_of_not_mem _ _ _ _ _ _ rfl (1 : Fin 2) (by simp; omega),
      View.read_writes_cons_unit_of_not_mem _ _ _ _ _ _ rfl (1 : Fin 2) (by simp; omega),
      View.read_writes_cons_unit_of_mem _ _ _ _ _ _ (ix2 r ⟨l.val - 0 * 128, by omega⟩ : S1024x128.Idx) rfl (hl 0 (by omega) hq)]
    frame_out
    rw [pay4_at, hg 0 (by omega) hq]; refine congrArg (fun z => quant (row _ r z) _) (Fin.ext ?_); show 0 + (l.val - 0 * 128) = l.val; omega
  · rw [View.read_writes_cons_unit_of_not_mem _ _ _ _ _ _ rfl (1 : Fin 2) (by simp; omega),
      View.read_writes_cons_unit_of_not_mem _ _ _ _ _ _ rfl (1 : Fin 2) (by simp; omega),
      View.read_writes_cons_unit_of_mem _ _ _ _ _ _ (ix2 r ⟨l.val - 1 * 128, by omega⟩ : S1024x128.Idx) rfl (hl 1 (by omega) hq)]
    frame_out
    rw [pay7_at, hg 1 (by omega) hq]; congr 2; apply Fin.ext; simp; omega
  · rw [View.read_writes_cons_unit_of_not_mem _ _ _ _ _ _ rfl (1 : Fin 2) (by simp; omega),
      View.read_writes_cons_unit_of_mem _ _ _ _ _ _ (ix2 r ⟨l.val - 2 * 128, by omega⟩ : S1024x128.Idx) rfl (hl 2 (by omega) hq)]
    have e := pay12_at (k0_pay1 (F := Ideal) x0 x2 x1 x3) r ⟨l.val - 2 * 128, by omega⟩
    frame_out
    frame_open at e
    have hk : (⟨256 + (l.val - 2 * 128), by omega⟩ : Fin 512) = l := Fin.ext (by show 256 + (l.val - 2 * 128) = l.val; omega)
    rw [e, hg 2 (by omega) hq]
    exact congrArg (fun z => quant (row (k0_pay1 (F := Ideal) x0 x2 x1 x3) r z) (gscale (row (k0_pay1 (F := Ideal) x0 x2 x1 x3) r) 2 (by omega))) hk
  · rw [View.read_writes_cons_unit_of_mem _ _ _ _ _ _ (ix2 r ⟨l.val - 3 * 128, by omega⟩ : S1024x128.Idx) rfl (hl 3 (by omega) hq)]
    frame_out
    rw [pay14_at, hg 3 (by omega) hq]; congr 2; apply Fin.ext; simp; omega

/-- The block of scales, at a row and a column. -/
theorem os_read (r : Fin 1024) (l : Fin 64) :
    arg7.view.read (Elt Ideal) (arg7.view.writes (Elt Ideal) (harg7.unread x5) (kernelRun c i arg2 harg2 arg3 harg3 arg4 harg4 arg5 harg5 arg6 harg6 arg7 harg7 x0 x1 x2 x3 x5).1.2) (ix2 r l)
      = if h : l.val / 4 = (i 1).val then gscale (row (k0_pay1 (F := Ideal) x0 x2 x1 x3) r) (l.val % 4) (by omega) else x5 (ix2 r l) := by
  dsimp only [kernelRun]
  rw [View.read_writes_cons_unit_of_mem _ _ _ _ _ _ (ix2 r l : S1024x64.Idx) rfl (Fin.forall_fin_two.mpr ⟨by simp, by simp⟩)]
  have e := os_at i x0 x1 x2 x3 x5 r l
  frame_out
  frame_open at e
  exact e

end

end Cert.DownIdeal.Gen

end
-- ==== Proof.DownBody.lean ====
/- The down kernel's pipeline: what its body leaves at each grid point, stated as a relation of the two outputs' blocks to the argument
   arrays; the body obligation; the run. -/
module

public import proofs.«01_k».proof.Proof.DownReads
public import Idealize.ShloMosaic.Lib.Pipeline.DatRel
public import Idealize.ShloMosaic.Lib.Pipeline.ArrRel

@[expose] public section

set_option maxRecDepth 16384

noncomputable section

namespace Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Spec

local notation "𝕄" => MT nD τ sig Unit (Elt Ideal) ℕ (UR sig nD τ) ℕ

variable (m : (ℓ : Loc nD τ sig) → Buf (Elt Ideal) ℓ) (ρ : Dev nD → PrngReg)

/-- The product's entry, of the arrays as launched. -/
def prodAt (c : Dev nD) (R : Fin 2048) (J : Fin 8192) : EReal :=
  downAt (m ((c : Thread nD τ).loc main_arg0)) (m ((c : Thread nD τ).loc main_arg1)) (m ((c : Thread nD τ).loc main_arg2)) (m ((c : Thread nD τ).loc main_arg3)) R J

/-- The windows' block indices at a grid point. -/
theorem idx : ∀ t : Fin cfg0.N, win0_0.index t = ![t.val / 16, 0] ∧ win0_1.index t = ![t.val / 16, 0] ∧ win0_2.index t = ![0, t.val % 16]
    ∧ win0_3.index t = ![0, t.val % 16] ∧ win0_4.index t = ![t.val / 16, t.val % 16] ∧ win0_5.index t = ![t.val / 16, 0] :=
  (by decide +kernel : ∀ t : Fin grid0.N, _)

theorem lt_N (t : Fin cfg0.N) : t.val < 32 := Nat.lt_of_lt_of_eq t.isLt N_0

/-- Row `r` of the point's row block and column `l` of its column block, in the arrays. -/
abbrev rowIx (t : Fin cfg0.N) (r : Fin 1024) : Fin 2048 := ⟨t.val / 16 * 1024 + r.val, by have := lt_N t; omega⟩
abbrev colIx (t : Fin cfg0.N) (l : Fin 512) : Fin 8192 := ⟨t.val % 16 * 512 + l.val, by omega⟩

/-- The product that the body computes on its blocks is the arrays' product at the blocks' place. -/
theorem block_at (c : Dev nD) (t : Fin cfg0.N) (r : Fin 1024) (l : Fin 512) :
    k0_pay1 (F := Ideal) (iblk m c 0 t) (iblk m c 2 t) (iblk m c 1 t) (iblk m c 3 t) (ix2 r l) = prodAt m c (rowIx t r) (colIx t l) := by
  refine (pay1_at (iblk m c 0 t) (iblk m c 1 t) (iblk m c 2 t) (iblk m c 3 t) r l).trans ?_
  unfold prodAt downAt dotS
  have ht := lt_N t
  blk_point [iblk, V, idx t]
  rw [V_main_arg0, V_main_arg2]
  congr 1
  · refine congrArg _ ?_; blk_ext <;> simp [idx t]
  · refine congrArg _ ?_; blk_ext <;> simp [idx t]

/-- The scale of a group of the block is the scale of the arrays' group there. -/
theorem gscale_block (c : Dev nD) (t : Fin cfg0.N) (r : Fin 1024) (q : ℕ) (hq : q * 128 + 128 ≤ 512) (g : ℕ) (hg : g * 128 + 128 ≤ 8192)
    (e : g = t.val % 16 * 4 + q) :
    gscale (row (k0_pay1 (F := Ideal) (iblk m c 0 t) (iblk m c 2 t) (iblk m c 1 t) (iblk m c 3 t)) r) q hq = gscale (prodAt m c (rowIx t r)) g hg :=
  gscale_congr _ _ fun k => (block_at m c t r _).trans (congrArg _ (Fin.ext (by
    show t.val % 16 * 512 + (q * 128 + k.val) = g * 128 + k.val
    omega)))

/-! ## The pipeline's proof data -/

/-- The two output windows: what they hold is stated as a relation. -/
def marked : Fin 6 → Bool := fun w => w.val == 4 || w.val == 5

/-- What the body leaves in an output's block at point `t`: in the output the quantised entries; in the scales those of the groups
    that this run of points has reached. -/
def Rl (c : Dev nD) : (w : Fin cfg0.W) → Fin cfg0.N → ((cfg0.win w).block.Idx → Elt Ideal (cfg0.win w).elt) → Prop := fun w t =>
  match w with
  | ⟨4, _⟩ => fun X : Vec Ideal S1024x512 .fp8e4m3 => ∀ (r : Fin 1024) (l : Fin 512),
      X (ix2 r l) = quant (prodAt m c (rowIx t r) (colIx t l)) (gscale (prodAt m c (rowIx t r)) (t.val % 16 * 4 + l.val / 128) (by omega))
  | ⟨5, _⟩ => fun X : Vec Ideal S1024x64 .f32 => ∀ (r : Fin 1024) (l : Fin 64), l.val / 4 ≤ t.val % 16 →
      X (ix2 r l) = gscale (prodAt m c (rowIx t r)) l.val (by omega)
  | _ => fun _ => True

/-- The proof data: the arrays as the region finds them, the inputs' buffers at their blocks, the class's invariant, nothing owed. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dat m c).A w = V m c (Pipeline.arrRef spec0 w) := by
  dsimp only [dat]

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]

theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d

/-- The block of scales that a point finds, if it is not the first of its run, is what the point before left. -/
theorem finds5 (c : Dev nD) (t : Fin cfg0.N) (Y : Vec Ideal S1024x64 .f32) (h : ((dat m c).toRRel marked (Rl m c)).Finds 5 t Y)
    (r : Fin 1024) (l : Fin 64) (hl : l.val / 4 < t.val % 16) : Y (ix2 r l) = gscale (prodAt m c (rowIx t r)) l.val (by omega) := by
  have hf : (cfg0.win 5).fetch t = false := rfl
  rw [RDat.finds_of_pos _ hf (by omega)] at h
  rcases h with h | h
  · have := (flush0_5 _).mp h
    simp only at this; omega
  · have h' : Rl m c 5 _ Y := (dat m c).toRRel_leaves rfl h
    have h2 := h' r l (by show l.val / 4 ≤ (t.val - 1) % 16; omega)
    rw [h2]
    refine congrArg (fun R => gscale (prodAt m c R) l.val (by omega)) (Fin.ext ?_)
    show (t.val - 1) / 16 * 1024 + r.val = t.val / 16 * 1024 + r.val
    omega

/-! ## The body obligation -/

abbrev ms0_0 (t : Fin cfg0.N) : Memref sig .tc .vmem S1024x3584 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ Y, ⌜((dat m c).toRRel marked (Rl m c)).Finds 4 t Y⌝ ∗ owns (c : Thread nD τ) (ms0_4 t) fullShare Y)
    ∗ (∃ Y, ⌜((dat m c).toRRel marked (Rl m c)).Finds 5 t Y⌝ ∗ owns (c : Thread nD τ) (ms0_5 t) fullShare Y))

/-- and what it returns. -/
def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ (∃ X, ⌜Rl m c 4 t X⌝ ∗ owns (c : Thread nD τ) (ms0_4 t) fullShare X)
    ∗ (∃ X, ⌜Rl m c 5 t X⌝ ∗ owns (c : Thread nD τ) (ms0_5 t) fullShare X))

/-- What the body's stores leave in the output's buffer meets its relation. -/
theorem rel4 (c : Dev nD) (t : Fin cfg0.N) (x5 : Vec Ideal S1024x64 .f32) (f) :
    Rl m c 4 t ((ms0_4 t).view.read (Elt Ideal) ((ms0_4 t).view.writes (Elt Ideal) f
      (kernelRun c (grid0.coords t) (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (iblk m c 3 t) x5).1.1)) := by
  intro r l
  refine (out_read c (grid0.coords t) (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (iblk m c 3 t) x5 f r l).trans ?_
  rw [gscale_block m c t r (l.val / 128) (by omega) (t.val % 16 * 4 + l.val / 128) (by omega) rfl]
  exact congrArg (fun z => quant z _) (block_at m c t r l)

/-- What the body's store leaves in the scales' buffer meets its relation. -/
theorem rel5 (c : Dev nD) (t : Fin cfg0.N) (x5 : Vec Ideal S1024x64 .f32) (h : ((dat m c).toRRel marked (Rl m c)).Finds 5 t x5) :
    Rl m c 5 t ((ms0_5 t).view.read (Elt Ideal) ((ms0_5 t).view.writes (Elt Ideal) ((hs0_5 t).unread x5)
      (kernelRun c (grid0.coords t) (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (iblk m c 3 t) x5).1.2)) := by
  intro r l hl
  refine (os_read c (grid0.coords t) (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (iblk m c 3 t) x5 r l).trans ?_
  have e1 : (grid0.coords t 1).val = t.val % 16 := by
    exact (Pipeline.Grid.coords_val t 1 (by decide) rfl : (grid0.coords t 1).val = t.val / 1 % 16).trans (by rw [Nat.div_one])
  by_cases hc : l.val / 4 = (grid0.coords t 1).val
  · rw [dif_pos hc]
    exact gscale_block m c t r (l.val % 4) (by omega) l.val (by omega) (by omega)
  · rw [dif_neg hc]
    exact finds5 m c t x5 h r l (by omega)

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dat m c).Φ t.succ = (dat m c).Φ t.castSucc from rfl,
    show (dat m c).owesAt () t.succ = (dat m c).owesAt () t.castSucc from rfl,
    after0_0, after0_1, after0_2, after0_3]
  iintro ⟨HΦ, Ho, ⟨%d0, H0⟩, ⟨%d1, H1⟩, ⟨%d2, H2⟩, ⟨%d3, H3⟩, ⟨%Y4, -, H4⟩, ⟨%Y5, %hY5, H5⟩⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t)
        (iblk m c 0 t) (iblk m c 1 t) (iblk m c 2 t) (iblk m c 3 t) Y5).2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%f4, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists _; isplitr
    · ipureintro; exact rel4 m c t Y5 f4
    · unfold owns; iexists _; isplitr; swap; · iexact H4
      ipureintro; rfl
  · iexists _; isplitr
    · ipureintro; exact rel5 m c t Y5 hY5
    · unfold owns; iexists _; isplitr; swap; · iexact H5
      ipureintro; rfl

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dat m c) (defs₀ (F := Ideal)) Variants.none () Set.univ marked (Rl m c) := fun t => by
  rw [bigSep_W0, bigSep_W0, defs₀_row]
  exact triple_restated (sound_body m c t) rfl .rfl fun _ => .rfl

/-! ## The run -/

abbrev rdat (c : Dev nD) : RDat τ (Elt Ideal) Unit ℕ (UR sig nD τ) ℕ cfg0 c := (dat m c).toRRel marked (Rl m c)

set_option backward.isDefEq.respectTransparency.types false in
/-- THE LAUNCH: every final state has the arrays that the relations allow, and the semaphore counters at zero. -/
theorem run_main : θ_run defs (onTc (τ := τ) (main (F := Ideal))) (s₀ m ρ) (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hΦ := fun _ _ => rfl)

end Cert.DownIdeal.Gen

end
-- ==== Proof.DownRefVal.lean ====
/- The down reference's results, at an index: the shared arithmetic (`Spec`) of the whole arrays. -/
module

public import proofs.«01_k».proof.Proof.Spec
public import proofs.«01_k».proof.Proof.Gen.DownRefIdeal.Value

@[expose] public section

set_option maxRecDepth 16384

noncomputable section

namespace Cert.DownRefIdeal.Gen

open Idealize.ShloMosaic Idealize.ShloMosaic.TcCoe Idealize.SL.Sem
open Cert.Spec

variable (A : Vec Ideal S2048x3584 .fp8e4m3) (X : Vec Ideal S2048x1 .f32) (W : Vec Ideal S3584x8192 .fp8e4m3) (S : Vec Ideal S8192 .f32)

/-- The scaled product, cut into groups of 128 columns. -/
theorem prod_at (R : Fin 2048) (g : Fin 64) (k : Fin 128) :
    k0_pay1 (F := Ideal) A W X S (ix3 R g k) = downAt A X W S R ⟨g.val * 128 + k.val, by omega⟩ := by
  unfold downAt dotS
  pointwise [k0_pay1]

/-- The largest absolute value of a group, of any array. -/
theorem red_at (v : FVec Ideal S2048x64x128 .f32) (R : Fin 2048) (g : Fin 64) :
    multiReduction (F := Ideal) .maximumf [2] S2048x64 (absf v) 0xFF800000#32 reduces_S2048x64x128_S2048x64 (.inl rfl) rfl (ix2 R g)
      = amax fun k : Fin 128 => v (ix3 R g k) := by
  unfold amax
  pointwise []

/-- The scale of a largest absolute value, of any array of them. -/
theorem sel_at (w : FVec Ideal S2048x64 .f32) (R : Fin 2048) (g : Fin 64) :
    (select (cmpf .oeq w (broadcast S2048x64 (Scalar.ofBits .f32 0x00000000#32))) (broadcast S2048x64 (Scalar.ofBits .f32 0x3F800000#32)) (divf w (broadcast S2048x64 (Scalar.ofBits .f32 0x43E00000#32))))
      (ix2 R g) = scaleOf (w (ix2 R g)) := by
  unfold scaleOf
  pointwise []

/-- The scale of a group. -/
theorem scale_at (R : Fin 2048) (g : Fin 64) :
    Value.G5 (F := Ideal) A X W S (ix2 R g) = gscale (downAt A X W S R) g.val (by omega) := by
  have e : k0_pay2 (F := Ideal) A W X S (ix2 R g) = scaleOf (amax fun k : Fin 128 => k0_pay1 (F := Ideal) A W X S (ix3 R g k)) := by
    unfold k0_pay2
    exact (sel_at _ R g).trans (congrArg scaleOf (red_at _ R g))
  refine e.trans ?_
  unfold gscale
  exact congrArg (fun f => scaleOf (amax f)) (funext fun k => prod_at A X W S R g k)

/-- The quantised values, of any array of products and any array of scales. -/
theorem quant_at (v : FVec Ideal S2048x64x128 .f32) (u : FVec Ideal S2048x64 .f32) (R : Fin 2048) (J : Fin 8192) :
    shapeCast S2048x8192 (truncf .fp8e4m3 (minimumf (broadcast S2048x64x128 (Scalar.ofBits .f32 0x43E00000#32)) (maximumf (broadcast S2048x64x128 (Scalar.ofBits .f32 0xC3E00000#32))
      (divf v (broadcastTo S2048x64x128 (shapeCast S2048x64x1 u shapeCasts_S2048x64_S2048x64x1) broadcasts_S2048x64x1_S2048x64x128)))) bitsLt_fp8e4m3_f32) shapeCasts_S2048x64x128_S2048x8192 (ix2 R J)
      = quant (v (ix3 R ⟨J.val / 128, by omega⟩ ⟨J.val % 128, by omega⟩)) (u (ix2 R ⟨J.val / 128, by omega⟩)) := by
  unfold quant
  pointwise []

/-- The product quantised by its group's scale. -/
theorem out_at (R : Fin 2048) (J : Fin 8192) :
    Value.G4 (F := Ideal) A X W S (ix2 R J) = quant (downAt A X W S R J) (gscale (downAt A X W S R) (J.val / 128) (by omega)) := by
  have e : k0_pay3 (F := Ideal) A W X S (ix2 R J) = quant (k0_pay1 (F := Ideal) A W X S (ix3 R ⟨J.val / 128, by omega⟩ ⟨J.val % 128, by omega⟩))
      (k0_pay2 (F := Ideal) A W X S (ix2 R ⟨J.val / 128, by omega⟩)) := by
    unfold k0_pay3
    exact quant_at _ _ R J
  have hJ : (⟨J.val / 128 * 128 + J.val % 128, by omega⟩ : Fin 8192) = J := Fin.ext (by show J.val / 128 * 128 + J.val % 128 = J.val; omega)
  have e1 := prod_at A X W S R ⟨J.val / 128, by omega⟩ ⟨J.val % 128, by omega⟩
  exact e.trans (congrArg₂ quant (e1.trans (congrArg (downAt A X W S R) hJ)) (scale_at A X W S R ⟨J.val / 128, by omega⟩))

end Cert.DownRefIdeal.Gen

end
-- ==== Proof.DownValue.lean ====
/- The down kernel's two results: the arrays that its run leaves are the reference's, of the same arguments. -/
module

public import proofs.«01_k».proof.Proof.DownBody
public import proofs.«01_k».proof.Proof.DownRefVal

@[expose] public section

set_option maxRecDepth 16384

noncomputable section

namespace Cert.DownIdeal.Gen

open Idealize.ShloMosaic Idealize.ShloMosaic.TcCoe Idealize.SL.Sem
open Idealize.ShloMosaic.Pipeline (Dat RDat)
open Cert.Spec

variable (m : (ℓ : Loc nD τ sig) → Buf (Elt Ideal) ℓ) (ρ : Dev nD → PrngReg)

/-- An output array whose every block meets its relation is the array of the quantised products. -/
theorem final4 (c : Dev nD) (after : (w : Fin cfg0.W) → Fin cfg0.N → (cfg0.win w).block.Idx → Elt Ideal (cfg0.win w).elt)
    (h : ∀ t, (cfg0.win 4).flush t = true → Rl m c 4 t (after 4 t)) (G : Vec Ideal S2048x8192 .fp8e4m3)
    (hG : ∀ (R : Fin 2048) (J : Fin 8192), G (ix2 R J) = quant (prodAt m c R J) (gscale (prodAt m c R) (J.val / 128) (by omega))) :
    ((rdat m c).withAfter after).arrAt 4 cfg0.N = G := by
  refine ((rdat m c).withAfter after).arrAt_eq_of_covers 4 G (by decide +kernel) fun t hf y => ?_
  have hR := h t hf
  blk_simp
  have he : ((win0_4.blk t).view.emb y : S2048x8192.Idx) = ix2 (rowIx t (y 0)) (colIx t (y 1)) := by
    blk_ext <;> simp [idx t]
  rw [he, hG]
  have e1 : after 4 t y = after 4 t (ix2 (y 0) (y 1) : S1024x512.Idx) := congrArg (after 4 t) (eq_ix2 (n0 := 1024) (n1 := 512) y)
  refine e1.trans ((hR (y 0) (y 1)).trans ?_)
  refine congrArg (quant _) (gscale_congr _ _ fun k => congrArg (prodAt m c _) (Fin.ext ?_))
  show (t.val % 16 * 4 + (y 1).val / 128) * 128 + k.val = (t.val % 16 * 512 + (y 1).val) / 128 * 128 + k.val
  omega

/-- An output array whose every block written back meets its relation is the array of the groups' scales. -/
theorem final5 (c : Dev nD) (after : (w : Fin cfg0.W) → Fin cfg0.N → (cfg0.win w).block.Idx → Elt Ideal (cfg0.win w).elt)
    (h : ∀ t, (cfg0.win 5).flush t = true → Rl m c 5 t (after 5 t)) (G : Vec Ideal S2048x64 .f32)
    (hG : ∀ (R : Fin 2048) (g : Fin 64), G (ix2 R g) = gscale (prodAt m c R) g.val (by omega)) :
    ((rdat m c).withAfter after).arrAt 5 cfg0.N = G := by
  refine ((rdat m c).withAfter after).arrAt_eq_of_covers 5 G (by decide +kernel) fun t hf y => ?_
  have hR := h t hf
  have ht := (flush0_5 t).mp hf
  blk_simp
  have he : ((win0_5.blk t).view.emb y : S2048x64.Idx) = ix2 (rowIx t (y 0)) (y 1) := by
    blk_ext <;> simp [idx t]
  have e1 : after 5 t y = after 5 t (ix2 (y 0) (y 1) : S1024x64.Idx) := congrArg (after 5 t) (eq_ix2 (n0 := 1024) (n1 := 64) y)
  have hy : (y 1).val < 64 := (y 1).isLt
  exact (e1.trans (hR (y 0) (y 1) (by omega))).trans ((congrArg G he).trans (hG (rowIx t (y 0)) (y 1))).symm

/-- THE RUN: every final state has the reference's results of the arguments in the two output arrays, the arguments as launched, and the
    semaphore counters at zero. -/
theorem run : θ_run defs (onTc (τ := τ) (main (F := Ideal))) ⟨m, fun _ => 0, ρ⟩ (fun r => (∀ c : Dev nD,
      (r.2.mem ((c.tc : Thread nD τ).loc main_v1_0) = DownRefIdeal.Value.G4 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v1_1) = DownRefIdeal.Value.G5 (F := Ideal) (m ((c : Thread nD τ).loc main_arg0)) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) := by
  refine (θ_run defs _ _).mono (fun r h => ⟨fun c => ?_, h.2⟩) (run_main m ρ)
  obtain ⟨after, hL, hA⟩ := RDat.FramePost.exists_exact h.1 c
  refine ⟨⟨(hA 4).trans (final4 m c after (fun t hf => (dat m c).toRRel_leaves rfl (hL 4 t hf)) _ fun R J => ?_),
      (hA 5).trans (final5 m c after (fun t hf => (dat m c).toRRel_leaves rfl (hL 5 t hf)) _ fun R g => ?_)⟩,
    (RDat.FramePost.arr_in h.1 c 0 rfl).trans ((A_eq m c 0).trans (V_main_arg0 m c)),
    (RDat.FramePost.arr_in h.1 c 1 rfl).trans ((A_eq m c 1).trans (V_main_arg1 m c)),
    (RDat.FramePost.arr_in h.1 c 2 rfl).trans ((A_eq m c 2).trans (V_main_arg2 m c)),
    ((h.1 c).2 main_arg3 (Pipeline.mem_restRefs_of main_arg3 (by decide) (by decide))).trans (V_main_arg3 m c)⟩
  · exact DownRefIdeal.Gen.out_at _ _ _ _ R J
  · exact DownRefIdeal.Gen.scale_at _ _ _ _ R g

end Cert.DownIdeal.Gen

end
-- ==== Proof.GateUpRun.lean ====
/- The runs of the gate-and-up kernel's body at one grid point, one for each of its three control cases, with what its stores leave in the scratch
   buffers and the outputs' buffers. -/
module

public import proofs.«01_k».proof.Proof.Gen.GateUpIdeal.Frame
public import proofs.«01_k».proof.Proof.Gen.GateUpIdeal.Skeleton
public import proofs.«01_k».proof.Proof.Gen.GateUpIdeal.Points

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 28 := Nat.lt_of_lt_of_eq t.isLt N_0
    have e0 : (grid0.coords t 0).val = t.val / 14 % 2 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 28 := Nat.lt_of_lt_of_eq t.isLt N_0
    have e0 : (grid0.coords t 0).val = t.val / 14 % 2 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

-- (the run's proof term is large: the definition's epilogue — `abstractNestedProofs` — walks it past the default budget)
set_option maxHeartbeats 1000000 in
/-- Case A (the first column block): the pieces that the body leaves in the scratch buffers, with the proof that it runs. -/
noncomputable def gRun_A (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 : Vec F S1024x3584 .f32) :
    { L : List (View.Piece (Elt F) S1024x3584 .f32) × List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread xs0) L.1) ∗ (∃ f, arg11.view.loc (c : Thread nD τ) ↦[arg11.view.set]{fullShare} arg11.view.writes (Elt F) f L.2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_gate_up_eq_skeleton]; unfold cc0_gate_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexact HS0
    iexists _; iexact HS1

-- (the run's proof term is large: the definition's epilogue — `abstractNestedProofs` — walks it past the default budget)
set_option maxHeartbeats 1000000 in
/-- Case B (a column block that is neither first nor last): the pieces that the body leaves in the scratch buffers, with the proof that it runs. -/
noncomputable def gRun_B (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : ¬cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 : Vec F S1024x3584 .f32) (xs1 : Vec F S1024x128 .f32) :
    { L : List (View.Piece (Elt F) S1024x3584 .f32) × List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} arg10.view.writes (Elt F) (harg10.unread xs0) L.1) ∗ (∃ f, arg11.view.loc (c : Thread nD τ) ↦[arg11.view.set]{fullShare} arg11.view.writes (Elt F) f L.2)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0_gate_up_eq_skeleton]; unfold cc0_gate_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexact HS0
    iexists _; iexact HS1

-- (the run's proof term is large: the definition's epilogue — `abstractNestedProofs` — walks it past the default budget)
set_option maxHeartbeats 1000000 in
/-- Case C (the last column block): the pieces that the body leaves in the scratch buffers and the outputs' buffers, with the proof that it runs. -/
noncomputable def gRun_C (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole) (hc0 : ¬cond0_0 i) (hc1 : cond0_1 i)
    (x0 : Vec F S1024x8192 .fp8e4m3) (x1 : Vec F S1024x1 .f32) (x2 : Vec F S8192x256 .fp8e4m3) (x3 : Vec F S8192x256 .fp8e4m3) (x4 : Vec F S1x256 .f32) (x5 : Vec F S1x256 .f32) (xs0 : Vec F S1024x3584 .f32) (xs1 : Vec F S1024x128 .f32) :
    { L : List (View.Piece (Elt F) S1024x3584 .f32) × List (View.Piece (Elt F) S1024x128 .f32) × List (View.Piece (Elt F) S1024x3584 .fp8e4m3) × List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L.2.2.1) ∗ (∃ f, arg9.view.loc (c : Thread nD τ) ↦[arg9.view.set]{fullShare} arg9.view.writes (Elt F) f L.2.2.2) ∗ (arg10.view.loc (c : Thread nD τ) ↦[arg10.view.set]{fullShare} arg10.view.writes (Elt F) (harg10.unread xs0) L.1) ∗ (∃ f, arg11.view.loc (c : Thread nD τ) ↦[arg11.view.set]{fullShare} arg11.view.writes (Elt F) f L.2.1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨⟨?_, ?_, ?_, ?_⟩, fun E K => ?run⟩
  case run =>
    simp only [cc0_gate_up_eq_skeleton]; unfold cc0_gate_up_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [HS0]
    · iexact HS0
    iexists _; iexact HS1

end Cert.GateUpIdeal.Gen

end
-- ==== Proof.GateUpPure.lean ====
/- The values that the gate-and-up kernel's body computes, at an index: the gate-and-up value, the running largest absolute values, the scale of a
   row and the quantised row. -/
module

public import proofs.«01_k».proof.Proof.Spec
public import proofs.«01_k».proof.Proof.GateUpRun
public import Idealize.ShloMosaic.Lib.WordCmp

@[expose] public section

set_option maxRecDepth 16384

noncomputable section

namespace Cert.GateUpIdeal.Gen

open Idealize.ShloMosaic Idealize.ShloMosaic.TcCoe Idealize.SL.Sem
open Cert.Spec

section

variable (x0 : Vec Ideal S1024x8192 .fp8e4m3) (x1 : Vec Ideal S1024x1 .f32) (x2 x3 : Vec Ideal S8192x256 .fp8e4m3) (x4 x5 : Vec Ideal S1x256 .f32) (r : Fin 1024)

/-- The gate-and-up value of a block, at a row and a column. -/
theorem pay5_at (l : Fin 256) : k0_pay5 (F := Ideal) x1 x0 x2 x4 x0 x3 x5 (ix2 r l)
    = glu (dotS (fun k : Fin 8192 => x0 (ix2 r k)) (fun k => x2 (ix2 k l)) (x1 (ix2 r 0)) (x4 (ix2 0 l)))
        (dotS (fun k : Fin 8192 => x0 (ix2 r k)) (fun k => x3 (ix2 k l)) (x1 (ix2 r 0)) (x5 (ix2 0 l))) := by
  unfold glu dotS
  pointwise [k0_pay5]

theorem castId_at (v : FVec Ideal S1024x256 .f32) (l : Fin 256) : shapeCast S1024x256 v shapeCasts_S1024x256_S1024x256 (ix2 r l) = v (ix2 r l) := by
  pointwise []

/-- What is stored of the block is that value. -/
theorem pay6_at (l : Fin 256) : k0_pay6 (F := Ideal) x1 x0 x2 x4 x0 x3 x5 (ix2 r l) = k0_pay5 (F := Ideal) x1 x0 x2 x4 x0 x3 x5 (ix2 r l) := by
  unfold k0_pay6
  exact castId_at r _ l

theorem acc_of (v : FVec Ideal S1024x256 .f32) (v32 : Vec Ideal S1024x128 .f32) (l : Fin 128) :
    k0_pay1 (F := Ideal) (absf v) v32 (extractStridedSlice S1024x128 ![0, 0] (absf v) slices_S1024x256_o0_0_S1024x128) (ix2 r l)
      = max (v32 (ix2 r l)) (max (absE (v (ix2 r ⟨l.val, by omega⟩))) (absE (v (ix2 r ⟨128 + l.val, by omega⟩)))) := by
  pointwise [k0_pay1]

/-- The running largest absolute value of a lane takes in the block's two columns there. -/
theorem acc_at (v32 : Vec Ideal S1024x128 .f32) (l : Fin 128) :
    k0_pay1 (F := Ideal) (k0_pay7 x1 x0 x2 x4 x0 x3 x5) v32 (k0_pay8 x1 x0 x2 x4 x0 x3 x5) (ix2 r l)
      = max (v32 (ix2 r l)) (max (absE (k0_pay5 (F := Ideal) x1 x0 x2 x4 x0 x3 x5 (ix2 r ⟨l.val, by omega⟩))) (absE (k0_pay5 (F := Ideal) x1 x0 x2 x4 x0 x3 x5 (ix2 r ⟨128 + l.val, by omega⟩)))) := by
  unfold k0_pay8 k0_pay7
  exact acc_of r _ v32 l

end

/-- The largest of the lanes' values. -/
def lanesMax (v : Vec Ideal S1024x128 .f32) (r : Fin 1024) : EReal :=
  Finset.univ.fold max (Ideal.ofBits FTy.f32 4286578688#32) fun k : Fin 128 => v (ix2 r k)

/-- The scale of a row, from the lanes' largest absolute values. -/
theorem pay2_at (v43 : Vec Ideal S1024x128 .f32) (r : Fin 1024) : k0_pay2 (F := Ideal) v43 (ix2 r 0) = scaleOf (lanesMax v43 r) := by
  unfold scaleOf lanesMax
  pointwise [k0_pay2]

/-- The row quantised by that scale. -/
theorem pay3_at (v43 : Vec Ideal S1024x128 .f32) (v53 : Vec Ideal S1024x3584 .f32) (r : Fin 1024) (l : Fin 3584) :
    k0_pay3 (F := Ideal) v43 v53 (ix2 r l) = quant (v53 (ix2 r l)) (scaleOf (lanesMax v43 r)) := by
  rw [← pay2_at]
  unfold quant
  pointwise [k0_pay3]

/-- The lanes start at zero. -/
theorem pay4_at (r : Fin 1024) (l : Fin 128) : k0_pay4 (F := Ideal) (ix2 r l) = 0 := by
  pointwise [k0_pay4]

end Cert.GateUpIdeal.Gen

end
-- ==== Proof.GateUpReads.lean ====
/- What the gate-and-up kernel's scratch buffers and outputs' buffers hold after the body, at an index. -/
module

public import proofs.«01_k».proof.Proof.GateUpPure
public import Idealize.ShloMosaic.Lib.WritesUnit
public import Idealize.ShloMosaic.Lib.Pipeline.ValueKit

@[expose] public section

set_option maxRecDepth 16384

noncomputable section

namespace Cert.GateUpIdeal.Gen

open Idealize.ShloMosaic Idealize.ShloMosaic.TcCoe Idealize.SL.Sem
open Cert.Spec

/-- The column at which the point's block is stored. -/
theorem off_eq (i : grid0.Coords) : k0_off1 i = ![0, (i 1).val * 256] := by
  have hn : (i 1).val < 14 := (i 1).isLt
  have e : (Scalar.indexCast (Scalar.muli (BitVec.ofNat 32 (i 1).val) 256#32)).toNat = (i 1).val * 256 := by
    show (BitVec.ofNat 32 (i 1).val * 256#32).toNat = _
    simp only [BitVec.toNat_ofNat, BitVec.toNat_mul]
    omega
  unfold k0_off1
  exact congrArg (fun z => ![0, z]) e

/-- A buffer of 3584 columns after the store of one block of 256, at an index. -/
theorem block_read (i : grid0.Coords) (arg10 : Memref sig .tc .vmem S1024x3584 .f32) (harg10 : arg10.IsWhole) (xs0 : Vec Ideal S1024x3584 .f32)
    (v : Vec Ideal S1024x256 .f32) (h) (r : Fin 1024) (J : Fin 3584) :
    arg10.view.read (Elt Ideal) (arg10.view.writes (Elt Ideal) (harg10.unread xs0) [⟨Rect.unit (k0_off1 i) ![1024, 256] h, v⟩]) (ix2 r J)
      = if J.val / 256 = (i 1).val then v (ix2 r ⟨J.val % 256, Nat.mod_lt _ (by omega)⟩) else xs0 (ix2 r J) := by
  have h0 : k0_off1 i 0 = 0 := congrFun (off_eq i) 0
  have h1 : k0_off1 i 1 = (i 1).val * 256 := congrFun (off_eq i) 1
  by_cases hc : J.val / 256 = (i 1).val
  · rw [if_pos hc]
    refine View.read_writes_cons_unit_of_mem arg10.view (harg10.unread xs0) h v [] (ix2 r J) (ix2 r ⟨J.val % 256, Nat.mod_lt _ (by omega)⟩ : S1024x256.Idx) rfl ?_
    refine Fin.forall_fin_two.mpr ⟨?_, ?_⟩
    · show r.val = k0_off1 i 0 + r.val
      omega
    · show J.val = k0_off1 i 1 + J.val % 256
      omega
  · rw [if_neg hc]
    refine (View.read_writes_cons_unit_of_not_mem _ _ _ _ _ _ rfl (1 : Fin 2) ?_).trans ?_
    · show J.val < k0_off1 i 1 ∨ k0_off1 i 1 + 256 ≤ J.val
      omega
    · exact congrFun (harg10.read_unread xs0) _

section

variable (c : Dev nD) (i : grid0.Coords) (arg2 : Memref sig .tc .vmem S1024x8192 .fp8e4m3) (harg2 : arg2.IsWhole) (arg3 : Memref sig .tc .vmem S1024x1 .f32) (harg3 : arg3.IsWhole) (arg4 : Memref sig .tc .vmem S8192x256 .fp8e4m3) (harg4 : arg4.IsWhole) (arg5 : Memref sig .tc .vmem S8192x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1024x3584 .fp8e4m3) (harg8 : arg8.IsWhole) (arg9 : Memref sig .tc .vmem S1024x1 .f32) (harg9 : arg9.IsWhole) (arg10 : Memref sig .tc .vmem S1024x3584 .f32) (harg10 : arg10.IsWhole) (arg11 : Memref sig .tc .vmem S1024x128 .f32) (harg11 : arg11.IsWhole)
 (x0 : Vec Ideal S1024x8192 .fp8e4m3) (x1 : Vec Ideal S1024x1 .f32) (x2 x3 : Vec Ideal S8192x256 .fp8e4m3) (x4 x5 : Vec Ideal S1x256 .f32) (xs0 : Vec Ideal S1024x3584 .f32) (xs1 : Vec Ideal S1024x128 .f32)

theorem m_read_A (hc0 : cond0_0 i) (hc1 : ¬cond0_1 i) (r : Fin 1024) (J : Fin 3584) :
    arg10.view.read (Elt Ideal) (arg10.view.writes (Elt Ideal) (harg10.unread xs0) (gRun_A (F := Ideal) c i arg2 harg2 arg3 harg3 arg4 harg4 arg5 harg5 arg6 harg6 arg7 harg7 arg8 harg8 arg9 harg9 arg10 harg10 arg11 harg11 hc0 hc1 x0 x1 x2 x3 x4 x5 xs0).1.1) (ix2 r J)
      = if J.val / 256 = (i 1).val then (k0_pay5 (F := Ideal) x1 x0 x2 x4 x0 x3 x5) (ix2 r ⟨J.val % 256, Nat.mod_lt _ (by omega)⟩) else xs0 (ix2 r J) := by
  dsimp only [gRun_A]
  frame_out
  refine (block_read i arg10 harg10 xs0 _ _ r J).trans ?_
  rw [pay6_at]

theorem a_read_A (hc0 : cond0_0 i) (hc1 : ¬cond0_1 i) (f) (r : Fin 1024) (l : Fin 128) :
    arg11.view.read (Elt Ideal) (arg11.view.writes (Elt Ideal) f (gRun_A (F := Ideal) c i arg2 harg2 arg3 harg3 arg4 harg4 arg5 harg5 arg6 harg6 arg7 harg7 arg8 harg8 arg9 harg9 arg10 harg10 arg11 harg11 hc0 hc1 x0 x1 x2 x3 x4 x5 xs0).1.2) (ix2 r l)
      = max (0) (max (absE ((k0_pay5 (F := Ideal) x1 x0 x2 x4 x0 x3 x5) (ix2 r ⟨l.val, by omega⟩))) (absE ((k0_pay5 (F := Ideal) x1 x0 x2 x4 x0 x3 x5) (ix2 r ⟨128 + l.val, by omega⟩)))) := by
  dsimp only [gRun_A]
  rw [View.read_writes_cons_unit_of_mem _ _ _ _ _ _ (ix2 r l : S1024x128.Idx) rfl (Fin.forall_fin_two.mpr ⟨by simp, by simp⟩)]
  frame_out
  refine (acc_at x0 x1 x2 x3 x4 x5 r _ l).trans ?_
  rw [pay4_at]

theorem m_read_B (hc0 : ¬cond0_0 i) (hc1 : ¬cond0_1 i) (r : Fin 1024) (J : Fin 3584) :
    arg10.view.read (Elt Ideal) (arg10.view.writes (Elt Ideal) (harg10.unread xs0) (gRun_B (F := Ideal) c i arg2 harg2 arg3 harg3 arg4 harg4 arg5 harg5 arg6 harg6 arg7 harg7 arg8 harg8 arg9 harg9 arg10 harg10 arg11 harg11 hc0 hc1 x0 x1 x2 x3 x4 x5 xs0 xs1).1.1) (ix2 r J)
      = if J.val / 256 = (i 1).val then (k0_pay5 (F := Ideal) x1 x0 x2 x4 x0 x3 x5) (ix2 r ⟨J.val % 256, Nat.mod_lt _ (by omega)⟩) else xs0 (ix2 r J) := by
  dsimp only [gRun_B]
  frame_out
  refine (block_read i arg10 harg10 xs0 _ _ r J).trans ?_
  rw [pay6_at]

theorem a_read_B (hc0 : ¬cond0_0 i) (hc1 : ¬cond0_1 i) (f) (r : Fin 1024) (l : Fin 128) :
    arg11.view.read (Elt Ideal) (arg11.view.writes (Elt Ideal) f (gRun_B (F := Ideal) c i arg2 harg2 arg3 harg3 arg4 harg4 arg5 harg5 arg6 harg6 arg7 harg7 arg8 harg8 arg9 harg9 arg10 harg10 arg11 harg11 hc0 hc1 x0 x1 x2 x3 x4 x5 xs0 xs1).1.2) (ix2 r l)
      = max (xs1 (ix2 r l)) (max (absE ((k0_pay5 (F := Ideal) x1 x0 x2 x4 x0 x3 x5) (ix2 r ⟨l.val, by omega⟩))) (absE ((k0_pay5 (F := Ideal) x1 x0 x2 x4 x0 x3 x5) (ix2 r ⟨128 + l.val, by omega⟩)))) := by
  dsimp only [gRun_B]
  rw [View.read_writes_cons_unit_of_mem _ _ _ _ _ _ (ix2 r l : S1024x128.Idx) rfl (Fin.forall_fin_two.mpr ⟨by simp, by simp⟩)]
  frame_out
  refine (acc_at x0 x1 x2 x3 x4 x5 r _ l).trans ?_
  rfl

theorem m_read_C (hc0 : ¬cond0_0 i) (hc1 : cond0_1 i) (r : Fin 1024) (J : Fin 3584) :
    arg10.view.read (Elt Ideal) (arg10.view.writes (Elt Ideal) (harg10.unread xs0) (gRun_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1).1.1) (ix2 r J)
      = if J.val / 256 = (i 1).val then (k0_pay5 (F := Ideal) x1 x0 x2 x4 x0 x3 x5) (ix2 r ⟨J.val % 256, Nat.mod_lt _ (by omega)⟩) else xs0 (ix2 r J) := by
  dsimp only [gRun_C]
  frame_out
  refine (block_read i arg10 harg10 xs0 _ _ r J).trans ?_
  rw [pay6_at]

theorem a_read_C (hc0 : ¬cond0_0 i) (hc1 : cond0_1 i) (f) (r : Fin 1024) (l : Fin 128) :
    arg11.view.read (Elt Ideal) (arg11.view.writes (Elt Ideal) f (gRun_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1).1.2.1) (ix2 r l)
      = max (xs1 (ix2 r l)) (max (absE ((k0_pay5 (F := Ideal) x1 x0 x2 x4 x0 x3 x5) (ix2 r ⟨l.val, by omega⟩))) (absE ((k0_pay5 (F := Ideal) x1 x0 x2 x4 x0 x3 x5) (ix2 r ⟨128 + l.val, by omega⟩)))) := by
  dsimp only [gRun_C, gRun_C.sl.HS1_1]
  rw [View.read_writes_cons_unit_of_mem _ _ _ _ _ _ (ix2 r l : S1024x128.Idx) rfl (Fin.forall_fin_two.mpr ⟨by simp, by simp⟩)]
  frame_out
  refine (acc_at x0 x1 x2 x3 x4 x5 r _ l).trans ?_
  rfl

/-- The lanes' largest absolute values after the last block. -/
abbrev lanesC : Vec Ideal S1024x128 .f32 := k0_pay1 (F := Ideal) (k0_pay7 x1 x0 x2 x4 x0 x3 x5) xs1 (k0_pay8 x1 x0 x2 x4 x0 x3 x5)

theorem act_read (hc0 : ¬cond0_0 i) (hc1 : cond0_1 i) (f) (r : Fin 1024) (J : Fin 3584) :
    arg8.view.read (Elt Ideal) (arg8.view.writes (Elt Ideal) f (gRun_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1).1.2.2.1) (ix2 r J)
      = quant (if J.val / 256 = (i 1).val then (k0_pay5 (F := Ideal) x1 x0 x2 x4 x0 x3 x5) (ix2 r ⟨J.val % 256, Nat.mod_lt _ (by omega)⟩) else xs0 (ix2 r J)) (scaleOf (lanesMax (lanesC x0 x1 x2 x3 x4 x5 xs1) r)) := by
  rw [← m_read_C c i arg2 harg2 arg3 harg3 arg4 harg4 arg5 harg5 arg6 harg6 arg7 harg7 arg8 harg8 arg9 harg9 arg10 harg10 arg11 harg11 x0 x1 x2 x3 x4 x5 xs0 xs1 hc0 hc1 r J]
  dsimp only [gRun_C]
  rw [View.read_writes_cons_unit_of_mem _ _ _ _ _ _ (ix2 r J : S1024x3584.Idx) rfl (Fin.forall_fin_two.mpr ⟨by simp, by simp⟩)]
  frame_out
  exact pay3_at _ _ r J

theorem as_read (hc0 : ¬cond0_0 i) (hc1 : cond0_1 i) (f) (r : Fin 1024) :
    arg9.view.read (Elt Ideal) (arg9.view.writes (Elt Ideal) f (gRun_C (F := Ideal) c i arg2 harg2 arg3 harg3 arg4 harg4 arg5 harg5 arg6 harg6 arg7 harg7 arg8 harg8 arg9 harg9 arg10 harg10 arg11 harg11 hc0 hc1 x0 x1 x2 x3 x4 x5 xs0 xs1).1.2.2.2) (ix2 r 0)
      = scaleOf (lanesMax (lanesC x0 x1 x2 x3 x4 x5 xs1) r) := by
  dsimp only [gRun_C]
  rw [View.read_writes_cons_unit_of_mem _ _ _ _ _ _ (ix2 r 0 : S1024x1.Idx) rfl (Fin.forall_fin_two.mpr ⟨by simp, by simp⟩)]
  frame_out
  exact pay2_at _ r

end

end Cert.GateUpIdeal.Gen

end
-- ==== Proof.GateUpBody.lean ====
/- The gate-and-up kernel's pipeline: what its body leaves at each grid point in the scratch buffers and in the outputs' blocks, stated by the
   argument arrays; the body obligation; the run. -/
module

public import proofs.«01_k».proof.Proof.GateUpReads
public import Idealize.ShloMosaic.Lib.Pipeline.DatRel
public import Idealize.ShloMosaic.Lib.Pipeline.ArrRel

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Spec

local notation "𝕄" => MT nD τ sig Unit (Elt Ideal) ℕ (UR sig nD τ) ℕ

/-! ## The lanes' largest absolute values -/

/-- `a` is the largest absolute value, from zero, of the entries of lane `l` in the first `n` column blocks. -/
def LaneMax (p : Fin 3584 → EReal) (n : ℕ) (l : Fin 128) (a : EReal) : Prop :=
  ∀ z, a ≤ z ↔ 0 ≤ z ∧ ∀ J : Fin 3584, J.val / 256 < n → J.val % 128 = l.val → absE (p J) ≤ z

/-- Before the first block it is zero. -/
theorem LaneMax.zero (p : Fin 3584 → EReal) (l : Fin 128) : LaneMax p 0 l 0 := fun z =>
  ⟨fun h => ⟨h, fun J hJ => absurd hJ (Nat.not_lt_zero _)⟩, fun h => h.1⟩

/-- One more block: two more entries of the lane. -/
theorem LaneMax.succ {p : Fin 3584 → EReal} {n : ℕ} {l : Fin 128} {a : EReal} (hn : n < 14) (h : LaneMax p n l a) :
    LaneMax p (n + 1) l (max a (max (absE (p ⟨n * 256 + l.val, by omega⟩)) (absE (p ⟨n * 256 + (128 + l.val), by omega⟩)))) := fun z => by
  rw [max_le_iff, max_le_iff, h z]
  constructor
  · rintro ⟨⟨hz, h'⟩, e0, e1⟩
    refine ⟨hz, fun J hJ hl => ?_⟩
    by_cases hc : J.val / 256 < n
    · exact h' J hc hl
    · by_cases hb : J.val % 256 < 128
      · have e : J = ⟨n * 256 + l.val, by omega⟩ := Fin.ext (by show J.val = n * 256 + l.val; omega)
        rw [e]; exact e0
      · have e : J = ⟨n * 256 + (128 + l.val), by omega⟩ := Fin.ext (by show J.val = n * 256 + (128 + l.val); omega)
        rw [e]; exact e1
  · rintro ⟨hz, h'⟩
    refine ⟨⟨hz, fun J hJ hl => h' J (by omega) hl⟩, h' _ ?_ ?_, h' _ ?_ ?_⟩ <;> dsimp only <;> omega

theorem lanesMax_le_iff (v : Vec Ideal S1024x128 .f32) (r : Fin 1024) (z : EReal) : lanesMax v r ≤ z ↔ ∀ l : Fin 128, v (ix2 r l) ≤ z := by
  unfold lanesMax
  rw [Finset.fold_max_le]
  have hb : Ideal.ofBits FTy.f32 4286578688#32 = ⊥ := by
    simp [Ideal.ofBits, Ideal.ieee]
  rw [hb]; simp

/-- After the last block the lanes' largest value is the row's. -/
theorem lanes_amax (p : Fin 3584 → EReal) (v : Vec Ideal S1024x128 .f32) (r : Fin 1024) (h : ∀ l : Fin 128, LaneMax p 14 l (v (ix2 r l))) :
    lanesMax v r = amax p :=
  eq_of_forall_ge_iff fun z => by
    rw [lanesMax_le_iff, amax_le_iff]
    exact ⟨fun h' J => ((h ⟨J.val % 128, Nat.mod_lt _ (by omega)⟩ z).mp (h' _)).2 J (by omega) rfl,
      fun h' l => (h l z).mpr ⟨(absE_nonneg (p 0)).trans (h' 0), fun J _ _ => h' J⟩⟩

variable (m : (ℓ : Loc nD τ sig) → Buf (Elt Ideal) ℓ) (ρ : Dev nD → PrngReg)

/-- The gate-and-up value, of the arrays as launched. -/
def valAt (c : Dev nD) (R : Fin 2048) (J : Fin 3584) : EReal :=
  gateUpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R J

/-- The windows' block indices at a grid point. -/
theorem idx : ∀ t : Fin cfg0.N, win0_0.index t = ![t.val / 14, 0] ∧ win0_1.index t = ![t.val / 14, 0] ∧ win0_2.index t = ![0, t.val % 14]
    ∧ win0_3.index t = ![0, t.val % 14] ∧ win0_4.index t = ![0, t.val % 14] ∧ win0_5.index t = ![0, t.val % 14]
    ∧ win0_6.index t = ![t.val / 14, 0] ∧ win0_7.index t = ![t.val / 14, 0] :=
  (by decide +kernel : ∀ t : Fin grid0.N, _)

theorem lt_N (t : Fin cfg0.N) : t.val < 28 := Nat.lt_of_lt_of_eq t.isLt N_0

/-- Row `r` of the point's row block and column `l` of its column block, in the arrays. -/
abbrev rowIx (t : Fin cfg0.N) (r : Fin 1024) : Fin 2048 := ⟨t.val / 14 * 1024 + r.val, by have := lt_N t; omega⟩
abbrev colIx (t : Fin cfg0.N) (l : Fin 256) : Fin 3584 := ⟨t.val % 14 * 256 + l.val, by omega⟩

theorem col_eq (t : Fin cfg0.N) : (grid0.coords t 1).val = t.val % 14 :=
  (Pipeline.Grid.coords_val t 1 (by decide) rfl : (grid0.coords t 1).val = t.val / 1 % 14).trans (by rw [Nat.div_one])

/-- The value that the body computes on its blocks is the arrays' value at the blocks' place. -/
theorem block_at (c : Dev nD) (t : Fin cfg0.N) (r : Fin 1024) (l : Fin 256) :
    k0_pay5 (F := Ideal) (iblk m c 1 t) (iblk m c 0 t) (iblk m c 2 t) (iblk m c 4 t) (iblk m c 0 t) (iblk m c 3 t) (iblk m c 5 t) (ix2 r l)
      = valAt m c (rowIx t r) (colIx t l) := by
  refine (pay5_at (iblk m c 0 t) (iblk m c 1 t) (iblk m c 2 t) (iblk m c 3 t) (iblk m c 4 t) (iblk m c 5 t) r l).trans ?_
  unfold valAt gateUpAt
  have ht := lt_N t
  congr 1
  · unfold dotS
    blk_point [iblk, V, idx t]
    rw [V_main_arg0, V_main_arg2]
    congr 1
    · refine congrArg _ ?_; blk_ext <;> simp [idx t]
    · refine congrArg _ ?_; blk_ext <;> simp [idx t]
  · unfold dotS
    blk_point [iblk, V, idx t]
    rw [V_main_arg0, V_main_arg3]
    congr 1
    · refine congrArg _ ?_; blk_ext <;> simp [idx t]
    · refine congrArg _ ?_; blk_ext <;> simp [idx t]

/-! ## What the scratch buffers hold after a point -/

/-- The row buffer: the values of the column blocks that this run of points has reached. -/
def RowInv (c : Dev nD) (t : Fin cfg0.N) (f : Vec Ideal S1024x3584 .f32) : Prop :=
  ∀ (r : Fin 1024) (J : Fin 3584), J.val / 256 ≤ t.val % 14 → f (ix2 r J) = valAt m c (rowIx t r) J

/-- The lanes: the largest absolute values of those. -/
def LaneInv (c : Dev nD) (t : Fin cfg0.N) (a : Vec Ideal S1024x128 .f32) : Prop :=
  ∀ (r : Fin 1024) (l : Fin 128), LaneMax (valAt m c (rowIx t r)) (t.val % 14 + 1) l (a (ix2 r l))

/-- The point before. -/
abbrev prev (t : Fin cfg0.N) : Fin cfg0.N := ⟨t.val - 1, Nat.lt_of_le_of_lt (Nat.sub_le _ _) t.isLt⟩

theorem row_prev (t : Fin cfg0.N) (h0 : ¬t.val % 14 = 0) (r : Fin 1024) : rowIx (prev t) r = rowIx t r :=
  Fin.ext (by show (t.val - 1) / 14 * 1024 + r.val = t.val / 14 * 1024 + r.val; omega)

/-- The row buffer after the store of the point's block. -/
theorem rowInv_of (c : Dev nD) (t : Fin cfg0.N) (f f' : Vec Ideal S1024x3584 .f32)
    (hf : ∀ (r : Fin 1024) (J : Fin 3584), J.val / 256 < t.val % 14 → f (ix2 r J) = valAt m c (rowIx t r) J)
    (h : ∀ (r : Fin 1024) (J : Fin 3584), f' (ix2 r J) = if J.val / 256 = (grid0.coords t 1).val then
      k0_pay5 (F := Ideal) (iblk m c 1 t) (iblk m c 0 t) (iblk m c 2 t) (iblk m c 4 t) (iblk m c 0 t) (iblk m c 3 t) (iblk m c 5 t) (ix2 r ⟨J.val % 256, Nat.mod_lt _ (by omega)⟩)
      else f (ix2 r J)) : RowInv m c t f' := by
  intro r J hJ
  have e1 := col_eq t
  rw [h r J]
  by_cases hc : J.val / 256 = (grid0.coords t 1).val
  · rw [if_pos hc, block_at]
    exact congrArg _ (Fin.ext (by show t.val % 14 * 256 + J.val % 256 = J.val; omega))
  · rw [if_neg hc]
    exact hf r J (by omega)

theorem row_before (c : Dev nD) (t : Fin cfg0.N) (h0 : ¬t.val % 14 = 0) (f : Vec Ideal S1024x3584 .f32) (hf : RowInv m c (prev t) f) (r : Fin 1024)
    (J : Fin 3584) (hJ : J.val / 256 < t.val % 14) : f (ix2 r J) = valAt m c (rowIx t r) J := by
  rw [← row_prev t h0]
  exact hf r J (by show J.val / 256 ≤ (t.val - 1) % 14; omega)

/-- The lanes after the point's block. -/
theorem laneInv_of (c : Dev nD) (t : Fin cfg0.N) (b a' : Vec Ideal S1024x128 .f32)
    (hb : ∀ (r : Fin 1024) (l : Fin 128), LaneMax (valAt m c (rowIx t r)) (t.val % 14) l (b (ix2 r l)))
    (h : ∀ (r : Fin 1024) (l : Fin 128), a' (ix2 r l) = max (b (ix2 r l)) (max
      (absE (k0_pay5 (F := Ideal) (iblk m c 1 t) (iblk m c 0 t) (iblk m c 2 t) (iblk m c 4 t) (iblk m c 0 t) (iblk m c 3 t) (iblk m c 5 t) (ix2 r ⟨l.val, by omega⟩)))
      (absE (k0_pay5 (F := Ideal) (iblk m c 1 t) (iblk m c 0 t) (iblk m c 2 t) (iblk m c 4 t) (iblk m c 0 t) (iblk m c 3 t) (iblk m c 5 t) (ix2 r ⟨128 + l.val, by omega⟩))))) :
    LaneInv m c t a' := by
  intro r l
  rw [h r l, block_at, block_at]
  exact (hb r l).succ (Nat.mod_lt _ (by omega))

theorem lane_before (c : Dev nD) (t : Fin cfg0.N) (h0 : ¬t.val % 14 = 0) (a : Vec Ideal S1024x128 .f32) (ha : LaneInv m c (prev t) a) (r : Fin 1024)
    (l : Fin 128) : LaneMax (valAt m c (rowIx t r)) (t.val % 14) l (a (ix2 r l)) := by
  have h := ha r l
  rw [row_prev t h0] at h
  have e : (prev t).val % 14 + 1 = t.val % 14 := by show (t.val - 1) % 14 + 1 = t.val % 14; omega
  rw [e] at h
  exact h

/-- At the first block the lanes start from zero. -/
theorem lane_first (c : Dev nD) (t : Fin cfg0.N) (h0 : t.val % 14 = 0) (r : Fin 1024) (l : Fin 128) :
    LaneMax (valAt m c (rowIx t r)) (t.val % 14) l 0 := by
  rw [h0]; exact LaneMax.zero _ l

/-! ## The pipeline's proof data -/

abbrev ms0_0 (t : Fin cfg0.N) : Memref sig .tc .vmem S1024x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- The scratch buffers, whole. -/
abbrev scM0_0 : Memref sig .tc .vmem S1024x3584 .f32 := Memref.whole cc0_scratch0
abbrev scM0_1 : Memref sig .tc .vmem S1024x128 .f32 := Memref.whole cc0_scratch1

/-- The class's invariant with the scratch buffers named: both at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before position `n`: at first the class's, then the scratch buffers at contents with their invariants. -/
def PhiS (c : Dev nD) : (n : ℕ) → n ≤ cfg0.N → sProp 𝕄
  | 0, _ => Pipeline.ΦA spec0 c
  | n + 1, hn => iprop(iprop((∃ f, ⌜RowInv m c ⟨n, hn⟩ f⌝ ∗ owns (c : Thread nD τ) scM0_0 fullShare f) ∗ (∃ a, ⌜LaneInv m c ⟨n, hn⟩ a⌝ ∗ owns (c : Thread nD τ) scM0_1 fullShare a)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop((∃ f, ⌜RowInv m c t f⌝ ∗ owns (c : Thread nD τ) scM0_0 fullShare f) ∗ (∃ a, ⌜LaneInv m c t a⌝ ∗ owns (c : Thread nD τ) scM0_1 fullShare a)) ∗ (∃ r, prngReg c r)) := rfl

theorem PhiS_pos (c : Dev nD) (n : ℕ) (h : n ≤ cfg0.N) (hz : n ≠ 0) :
    PhiS m c n h = iprop(iprop((∃ f, ⌜RowInv m c ⟨n - 1, by omega⟩ f⌝ ∗ owns (c : Thread nD τ) scM0_0 fullShare f) ∗ (∃ a, ⌜LaneInv m c ⟨n - 1, by omega⟩ a⌝ ∗ owns (c : Thread nD τ) scM0_1 fullShare a)) ∗ (∃ r, prngReg c r)) := by
  cases n with
  | zero => exact absurd rfl hz
  | succ n => rfl

/-- The two output windows: what they hold is stated as a relation. -/
def marked : Fin 8 → Bool := fun w => w.val == 6 || w.val == 7

/-- What the body leaves in an output's block at point `t`: after the last column block, the quantised rows and their scales. -/
def Rl (c : Dev nD) : (w : Fin cfg0.W) → Fin cfg0.N → ((cfg0.win w).block.Idx → Elt Ideal (cfg0.win w).elt) → Prop := fun w t =>
  match w with
  | ⟨6, _⟩ => fun X : Vec Ideal S1024x3584 .fp8e4m3 => t.val % 14 = 13 → ∀ (r : Fin 1024) (J : Fin 3584),
      X (ix2 r J) = quant (valAt m c (rowIx t r) J) (scaleOf (amax (valAt m c (rowIx t r))))
  | ⟨7, _⟩ => fun X : Vec Ideal S1024x1 .f32 => t.val % 14 = 13 → ∀ r : Fin 1024,
      X (ix2 r 0) = scaleOf (amax (valAt m c (rowIx t r)))
  | _ => fun _ => True

/-- The proof data: the arrays as the region finds them, the inputs' buffers at their blocks, the invariant above, nothing owed. -/
def dat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

theorem A_eq (c : Dev nD) (w : Fin cfg0.W) : (dat m c).A w = V m c (Pipeline.arrRef spec0 w) := by
  dsimp only [dat]

theorem PhiS_castSucc (c : Dev nD) (t : Fin cfg0.N) :
    (dat m c).Φ t.castSucc = PhiS m c t.val (Nat.le_of_lt t.isLt) := by
  dsimp only [dat]; exact Pipeline.Dat.Φ_castSucc (PhiS m c) t

theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = iblk m c 4 t := by dsimp only [dat]
theorem after0_5 (c : Dev nD) (t : Fin cfg0.N) : (dat m c).after 5 t = iblk m c 5 t := by dsimp only [dat]

theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem before0_4 (c : Dev nD) (t : Fin cfg0.N) (d) : (dat m c).before 4 t d = iblk m c 4 t :=
  before0_4_of m (dat m c) (A_eq m c 4) (after0_4 m c) t d
theorem before0_5 (c : Dev nD) (t : Fin cfg0.N) (d) : (dat m c).before 5 t d = iblk m c 5 t :=
  before0_5_of m (dat m c) (A_eq m c 5) (after0_5 m c) t d

/-! ## The body obligation -/

/-- What the body is called with at point `t`, -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d))
    ∗ (∃ d, owns (c : Thread nD τ) (ms0_4 t) fullShare ((dat m c).before 4 t d))
    ∗ (∃ d, owns (c : Thread nD τ) (ms0_5 t) fullShare ((dat m c).before 5 t d))
    ∗ (∃ Y, ⌜((dat m c).toRRel marked (Rl m c)).Finds 6 t Y⌝ ∗ owns (c : Thread nD τ) (ms0_6 t) fullShare Y)
    ∗ (∃ Y, ⌜((dat m c).toRRel marked (Rl m c)).Finds 7 t Y⌝ ∗ owns (c : Thread nD τ) (ms0_7 t) fullShare Y))

/-- and what it returns. -/
def bodyPost (c : Dev nD) (t : Fin cfg0.N) : sProp 𝕄 :=
  iprop((dat m c).Φ t.succ ∗ (dat m c).owesAt () t.succ
    ∗ owns (c : Thread nD τ) (ms0_0 t) fullShare ((dat m c).after 0 t)
    ∗ owns (c : Thread nD τ) (ms0_1 t) fullShare ((dat m c).after 1 t)
    ∗ owns (c : Thread nD τ) (ms0_2 t) fullShare ((dat m c).after 2 t)
    ∗ owns (c : Thread nD τ) (ms0_3 t) fullShare ((dat m c).after 3 t)
    ∗ owns (c : Thread nD τ) (ms0_4 t) fullShare ((dat m c).after 4 t)
    ∗ owns (c : Thread nD τ) (ms0_5 t) fullShare ((dat m c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

/-- The row buffer after the first column block. -/
theorem row_A (c : Dev nD) (t : Fin cfg0.N) (h0 : t.val % 14 = 0) (h1 : ¬t.val % 14 = 13) (xs0 : Vec Ideal S1024x3584 .f32) :
    RowInv m c t (scM0_0.view.read (Elt Ideal) (scM0_0.view.writes (Elt Ideal) ((Memref.isWhole_whole cc0_scratch0).unread xs0)
      (gRun_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) xs0).1.1)) :=
  rowInv_of m c t xs0 _ (fun r J hJ => absurd hJ (by omega)) fun r J =>
    m_read_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 ((hcond0_0 t).mpr h0) (fun h => h1 ((hcond0_1 t).mp h)) r J

/-- The lanes after the first column block. -/
theorem lane_A (c : Dev nD) (t : Fin cfg0.N) (h0 : t.val % 14 = 0) (h1 : ¬t.val % 14 = 13) (xs0 : Vec Ideal S1024x3584 .f32) (f) :
    LaneInv m c t (scM0_1.view.read (Elt Ideal) (scM0_1.view.writes (Elt Ideal) f
      (gRun_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) xs0).1.2)) :=
  laneInv_of m c t (fun _ => 0) _ (lane_first m c t h0) fun r l =>
    a_read_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 ((hcond0_0 t).mpr h0) (fun h => h1 ((hcond0_1 t).mp h)) f r l

/-- The row buffer after a middle column block. -/
theorem row_B (c : Dev nD) (t : Fin cfg0.N) (h0 : ¬t.val % 14 = 0) (h1 : ¬t.val % 14 = 13) (xs0 : Vec Ideal S1024x3584 .f32) (xs1 : Vec Ideal S1024x128 .f32) (hx : RowInv m c (prev t) xs0) :
    RowInv m c t (scM0_0.view.read (Elt Ideal) (scM0_0.view.writes (Elt Ideal) ((Memref.isWhole_whole cc0_scratch0).unread xs0)
      (gRun_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1).1.1)) :=
  rowInv_of m c t xs0 _ (row_before m c t h0 xs0 hx) fun r J =>
    m_read_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) (fun h => h1 ((hcond0_1 t).mp h)) r J

/-- The lanes after a middle column block. -/
theorem lane_B (c : Dev nD) (t : Fin cfg0.N) (h0 : ¬t.val % 14 = 0) (h1 : ¬t.val % 14 = 13) (xs0 : Vec Ideal S1024x3584 .f32) (xs1 : Vec Ideal S1024x128 .f32) (ha : LaneInv m c (prev t) xs1) (f) :
    LaneInv m c t (scM0_1.view.read (Elt Ideal) (scM0_1.view.writes (Elt Ideal) f
      (gRun_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1).1.2)) :=
  laneInv_of m c t xs1 _ (lane_before m c t h0 xs1 ha) fun r l =>
    a_read_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) (fun h => h1 ((hcond0_1 t).mp h)) f r l

/-- The row buffer after the last column block. -/
theorem row_C (c : Dev nD) (t : Fin cfg0.N) (h0 : ¬t.val % 14 = 0) (h1 : t.val % 14 = 13) (xs0 : Vec Ideal S1024x3584 .f32) (xs1 : Vec Ideal S1024x128 .f32) (hx : RowInv m c (prev t) xs0) :
    RowInv m c t (scM0_0.view.read (Elt Ideal) (scM0_0.view.writes (Elt Ideal) ((Memref.isWhole_whole cc0_scratch0).unread xs0)
      (gRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1).1.1)) :=
  rowInv_of m c t xs0 _ (row_before m c t h0 xs0 hx) fun r J =>
    m_read_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) ((hcond0_1 t).mpr h1) r J

/-- The lanes after the last column block. -/
theorem lane_C (c : Dev nD) (t : Fin cfg0.N) (h0 : ¬t.val % 14 = 0) (h1 : t.val % 14 = 13) (xs0 : Vec Ideal S1024x3584 .f32) (xs1 : Vec Ideal S1024x128 .f32) (ha : LaneInv m c (prev t) xs1) (f) :
    LaneInv m c t (scM0_1.view.read (Elt Ideal) (scM0_1.view.writes (Elt Ideal) f
      (gRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1).1.2.1)) :=
  laneInv_of m c t xs1 _ (lane_before m c t h0 xs1 ha) fun r l =>
    a_read_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) ((hcond0_1 t).mpr h1) f r l

/-- The lanes' largest value after the last block is the row's largest absolute value. -/
theorem lanesC_eq (c : Dev nD) (t : Fin cfg0.N) (h0 : ¬t.val % 14 = 0) (h1 : t.val % 14 = 13) (xs1 : Vec Ideal S1024x128 .f32) (ha : LaneInv m c (prev t) xs1) (r : Fin 1024) :
    lanesMax (lanesC (iblk m c 0 t) (iblk m c 1 t) (iblk m c 2 t) (iblk m c 3 t) (iblk m c 4 t) (iblk m c 5 t) xs1) r = amax (valAt m c (rowIx t r)) :=
  lanes_amax _ _ r fun l => by
    have h := laneInv_of m c t xs1 (lanesC (iblk m c 0 t) (iblk m c 1 t) (iblk m c 2 t) (iblk m c 3 t) (iblk m c 4 t) (iblk m c 5 t) xs1) (lane_before m c t h0 xs1 ha)
      (fun r l => acc_at (iblk m c 0 t) (iblk m c 1 t) (iblk m c 2 t) (iblk m c 3 t) (iblk m c 4 t) (iblk m c 5 t) r xs1 l) r l
    rw [h1] at h
    exact h

/-- What the last block's stores leave in the output's buffer. -/
theorem rel6 (c : Dev nD) (t : Fin cfg0.N) (h0 : ¬t.val % 14 = 0) (h1 : t.val % 14 = 13) (xs0 : Vec Ideal S1024x3584 .f32) (xs1 : Vec Ideal S1024x128 .f32)
    (hx : RowInv m c (prev t) xs0) (ha : LaneInv m c (prev t) xs1) (f) :
    Rl m c 6 t ((ms0_6 t).view.read (Elt Ideal) ((ms0_6 t).view.writes (Elt Ideal) f
      (gRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1).1.2.2.1)) := by
  intro _ r J
  refine (act_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) ((hcond0_1 t).mpr h1) f r J).trans ?_
  rw [lanesC_eq m c t h0 h1 xs1 ha r]
  refine congrArg (fun z => quant z _) ?_
  refine (m_read_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) ((hcond0_1 t).mpr h1) r J).symm.trans ?_
  exact row_C m c t h0 h1 xs0 xs1 hx r J (by omega)

/-- What the last block's store leaves in the scales' buffer. -/
theorem rel7 (c : Dev nD) (t : Fin cfg0.N) (h0 : ¬t.val % 14 = 0) (h1 : t.val % 14 = 13) (xs0 : Vec Ideal S1024x3584 .f32) (xs1 : Vec Ideal S1024x128 .f32)
    (ha : LaneInv m c (prev t) xs1) (f) :
    Rl m c 7 t ((ms0_7 t).view.read (Elt Ideal) ((ms0_7 t).view.writes (Elt Ideal) f
      (gRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1).1.2.2.2)) := by
  intro _ r
  refine (as_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) xs0 xs1 (fun h => h0 ((hcond0_0 t).mp h)) ((hcond0_1 t).mpr h1) f r).trans ?_
  rw [lanesC_eq m c t h0 h1 xs1 ha r]

set_option maxHeartbeats 9600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dat m c).owesAt () t.succ = (dat m c).owesAt () t.castSucc from rfl,
    show (dat m c).Φ t.succ = PhiS m c (t.val + 1) t.isLt from rfl, PhiS_succ,
    after0_0, after0_1, after0_2, after0_3, after0_4, after0_5]
  have hN := lt_N t
  by_cases h0 : t.val % 14 = 0
  · have h1 : ¬t.val % 14 = 13 := by omega
    by_cases hz : t.val = 0
    · rw [PhiS_castSucc m c t, PhiS_zero m c _ _ hz, PhiA0_eq]
      iintro ⟨⟨⟨⟨%xs0, HS0⟩, HS1⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩⟩
      iapply ((gRun_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) xs0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%d6, H6⟩, ⟨%d7, H7⟩, HS0, ⟨%es1, HS1⟩⟩
      isplitl [HS0 HS1 Hg]
      · isplitl [HS0 HS1]
        · isplitl [HS0]
          · iexists _; isplitr
            · ipureintro; exact row_A m c t h0 h1 xs0
            · unfold owns; iexists _; isplitr; swap; · iexact HS0
              ipureintro; rfl
          · iexists _; isplitr
            · ipureintro; exact lane_A m c t h0 h1 xs0 es1
            · unfold owns; iexists _; isplitr; swap; · iexact HS1
              ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro; exact fun h => absurd h h1
      · iexists _; isplitr; swap; · iexact H7
        ipureintro; exact fun h => absurd h h1
    · rw [PhiS_castSucc m c t, PhiS_pos m c _ _ hz]
      iintro ⟨⟨⟨⟨%xs0, %hx, HS0⟩, ⟨%xs1, %ha, HS1⟩⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩⟩
      iapply ((gRun_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) xs0).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexists _; iexact HS1
      iintro ⟨H0, H1, H2, H3, H4, H5, ⟨%d6, H6⟩, ⟨%d7, H7⟩, HS0, ⟨%es1, HS1⟩⟩
      isplitl [HS0 HS1 Hg]
      · isplitl [HS0 HS1]
        · isplitl [HS0]
          · iexists _; isplitr
            · ipureintro; exact row_A m c t h0 h1 xs0
            · unfold owns; iexists _; isplitr; swap; · iexact HS0
              ipureintro; rfl
          · iexists _; isplitr
            · ipureintro; exact lane_A m c t h0 h1 xs0 es1
            · unfold owns; iexists _; isplitr; swap; · iexact HS1
              ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro; exact fun h => absurd h h1
      · iexists _; isplitr; swap; · iexact H7
        ipureintro; exact fun h => absurd h h1
  · have hz : t.val ≠ 0 := by omega
    by_cases h1 : t.val % 14 = 13
    · rw [PhiS_castSucc m c t, PhiS_pos m c _ _ hz]
      iintro ⟨⟨⟨⟨%xs0, %hx, HS0⟩, ⟨%xs1, %ha, HS1⟩⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩⟩
      iapply ((gRun_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0 xs1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%d6, H6⟩, ⟨%d7, H7⟩, HS0, ⟨%es1, HS1⟩⟩
      isplitl [HS0 HS1 Hg]
      · isplitl [HS0 HS1]
        · isplitl [HS0]
          · iexists _; isplitr
            · ipureintro; exact row_C m c t h0 h1 xs0 xs1 hx
            · unfold owns; iexists _; isplitr; swap; · iexact HS0
              ipureintro; rfl
          · iexists _; isplitr
            · ipureintro; exact lane_C m c t h0 h1 xs0 xs1 ha es1
            · unfold owns; iexists _; isplitr; swap; · iexact HS1
              ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr
        · ipureintro; exact rel6 m c t h0 h1 xs0 xs1 hx ha d6
        · unfold owns; iexists _; isplitr; swap; · iexact H6
          ipureintro; rfl
      · iexists _; isplitr
        · ipureintro; exact rel7 m c t h0 h1 xs0 xs1 ha d7
        · unfold owns; iexists _; isplitr; swap; · iexact H7
          ipureintro; rfl
    · rw [PhiS_castSucc m c t, PhiS_pos m c _ _ hz]
      iintro ⟨⟨⟨⟨%xs0, %hx, HS0⟩, ⟨%xs1, %ha, HS1⟩⟩, Hg⟩, Ho, ⟨%d0, H0⟩, ⟨%d1, H1⟩, ⟨%d2, H2⟩, ⟨%d3, H3⟩, ⟨%d4, H4⟩, ⟨%d5, H5⟩, ⟨%Y6, -, H6⟩, ⟨%Y7, -, H7⟩⟩
      iapply ((gRun_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0 xs1).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%d6, H6⟩, ⟨%d7, H7⟩, HS0, ⟨%es1, HS1⟩⟩
      isplitl [HS0 HS1 Hg]
      · isplitl [HS0 HS1]
        · isplitl [HS0]
          · iexists _; isplitr
            · ipureintro; exact row_B m c t h0 h1 xs0 xs1 hx
            · unfold owns; iexists _; isplitr; swap; · iexact HS0
              ipureintro; rfl
          · iexists _; isplitr
            · ipureintro; exact lane_B m c t h0 h1 xs0 xs1 ha es1
            · unfold owns; iexists _; isplitr; swap; · iexact HS1
              ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · iexists _; isplitr; swap; · iexact H6
        ipureintro; exact fun h => absurd h h1
      · iexists _; isplitr; swap; · iexact H7
        ipureintro; exact fun h => absurd h h1

theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligationRel (dat m c) (defs₀ (F := Ideal)) Variants.none () Set.univ marked (Rl m c) := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dat m c).Φ 0 := by
  rw [show (dat m c).Φ 0 = PhiS m c 0 (Nat.zero_le _) from rfl, PhiS_zero m c 0 _ rfl]

/-- and after the last point the invariant gives it back. -/
theorem hout (c : Dev nD) : (dat m c).Φ (Fin.last cfg0.N) ⊢ Pipeline.ΦA spec0 c := by
  rw [show (dat m c).Φ (Fin.last cfg0.N) = PhiS m c (Fin.last cfg0.N).val (Nat.le_of_lt_succ (Fin.last cfg0.N).isLt) from rfl,
    PhiS_pos m c _ _ (by rw [Fin.val_last]; have : cfg0.N = 28 := N_0; omega), PhiA0_eq]
  iintro ⟨⟨⟨%f, -, HS0⟩, ⟨%a, -, HS1⟩⟩, Hg⟩
  isplitl [HS0 HS1]
  · isplitl [HS0]
    · iexists _; iexact HS0
    iexists _; iexact HS1
  iexact Hg

/-! ## The run -/

abbrev rdat (c : Dev nD) : RDat τ (Elt Ideal) Unit ℕ (UR sig nD τ) ℕ cfg0 c := (dat m c).toRRel marked (Rl m c)

set_option backward.isDefEq.respectTransparency.types false in
/-- THE LAUNCH: every final state has the arrays that the relations allow, and the semaphore counters at zero. -/
theorem run_main : θ_run defs (onTc (τ := τ) (main (F := Ideal))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dat m c).share_full fun _ => rfl)
    (howed := fun _ _ => rfl) (V := V m) (hmain := hmain m Variants.none) (hA := A_eq m) (hin := hin m) (hout := hout m)

end Cert.GateUpIdeal.Gen

end
-- ==== Proof.GateUpRefVal.lean ====
/- The gate-and-up reference's results, at an index: the shared arithmetic (`Spec`) of the whole arrays. -/
module

public import proofs.«01_k».proof.Proof.Spec
public import proofs.«01_k».proof.Proof.Gen.GateUpRefIdeal.Value

@[expose] public section

set_option maxRecDepth 16384

noncomputable section

namespace Cert.GateUpRefIdeal.Gen

open Idealize.ShloMosaic Idealize.ShloMosaic.TcCoe Idealize.SL.Sem
open Cert.Spec

variable (A : Vec Ideal S2048x8192 .fp8e4m3) (X : Vec Ideal S2048x1 .f32) (G U : Vec Ideal S8192x3584 .fp8e4m3) (SG SU : Vec Ideal S3584 .f32)

/-- The gate-and-up value. -/
theorem val_at (R : Fin 2048) (J : Fin 3584) :
    k0_pay1 (F := Ideal) A X G SG U SU (ix2 R J) = gateUpAt A X G U SG SU R J := by
  unfold gateUpAt glu dotS
  pointwise [k0_pay1]

/-- The largest absolute value of a row, of any array. -/
theorem red_at (v : FVec Ideal S2048x3584 .f32) (R : Fin 2048) :
    multiReduction (F := Ideal) .maximumf [1] S2048 (absf v) 0xFF800000#32 reduces_S2048x3584_S2048 (.inl rfl) rfl (ix1 R) = amax fun k : Fin 3584 => v (ix2 R k) := by
  unfold amax
  pointwise []

/-- The scale of a largest absolute value, of any array of them. -/
theorem sel_at (w : FVec Ideal S2048 .f32) (R : Fin 2048) :
    (select (cmpf .oeq w (broadcast S2048 (Scalar.ofBits .f32 0x00000000#32))) (broadcast S2048 (Scalar.ofBits .f32 0x3F800000#32)) (divf w (broadcast S2048 (Scalar.ofBits .f32 0x43E00000#32))))
      (ix1 R) = scaleOf (w (ix1 R)) := by
  unfold scaleOf
  pointwise []

/-- The scale of a row, as a vector. -/
theorem pay2_at (R : Fin 2048) :
    k0_pay2 (F := Ideal) A X G SG U SU (ix1 R) = scaleOf (amax (gateUpAt A X G U SG SU R)) := by
  have e : k0_pay2 (F := Ideal) A X G SG U SU (ix1 R) = scaleOf (amax fun k : Fin 3584 => k0_pay1 (F := Ideal) A X G SG U SU (ix2 R k)) := by
    unfold k0_pay2
    exact (sel_at _ R).trans (congrArg scaleOf (red_at _ R))
  exact e.trans (congrArg (fun f => scaleOf (amax f)) (funext fun k => val_at A X G U SG SU R k))

theorem col_at (u : FVec Ideal S2048 .f32) (R : Fin 2048) : shapeCast S2048x1 u shapeCasts_S2048_S2048x1 (ix2 R 0) = u (ix1 R) := by
  pointwise []

/-- The scale of a row. -/
theorem scale_at (R : Fin 2048) :
    Value.G7 (F := Ideal) A X G U SG SU (ix2 R 0) = scaleOf (amax (gateUpAt A X G U SG SU R)) := by
  have e : k0_pay4 (F := Ideal) A X G SG U SU (ix2 R 0) = k0_pay2 (F := Ideal) A X G SG U SU (ix1 R) := by
    unfold k0_pay4
    exact col_at _ R
  exact e.trans (pay2_at A X G U SG SU R)

/-- The quantised values, of any array of values and any vector of scales. -/
theorem quant_at (v : FVec Ideal S2048x3584 .f32) (u : FVec Ideal S2048 .f32) (R : Fin 2048) (J : Fin 3584) :
    truncf (F := Ideal) .fp8e4m3 (minimumf (broadcast S2048x3584 (Scalar.ofBits .f32 0x43E00000#32)) (maximumf (broadcast S2048x3584 (Scalar.ofBits .f32 0xC3E00000#32))
      (divf v (broadcastTo S2048x3584 (shapeCast S2048x1 u shapeCasts_S2048_S2048x1) broadcasts_S2048x1_S2048x3584)))) bitsLt_fp8e4m3_f32 (ix2 R J)
      = quant (v (ix2 R J)) (u (ix1 R)) := by
  unfold quant
  pointwise []

/-- The row quantised by its scale. -/
theorem act_at (R : Fin 2048) (J : Fin 3584) :
    Value.G6 (F := Ideal) A X G U SG SU (ix2 R J) = quant (gateUpAt A X G U SG SU R J) (scaleOf (amax (gateUpAt A X G U SG SU R))) := by
  have e : k0_pay3 (F := Ideal) A X G SG U SU (ix2 R J) = quant (k0_pay1 (F := Ideal) A X G SG U SU (ix2 R J)) (k0_pay2 (F := Ideal) A X G SG U SU (ix1 R)) := by
    unfold k0_pay3
    exact quant_at _ _ R J
  exact e.trans (congrArg₂ quant (val_at A X G U SG SU R J) (pay2_at A X G U SG SU R))

end Cert.GateUpRefIdeal.Gen

end
-- ==== Proof.GateUpValue.lean ====
/- The gate-and-up kernel's two results: the arrays that its run leaves are the reference's, of the same arguments. -/
module

public import proofs.«01_k».proof.Proof.GateUpBody
public import proofs.«01_k».proof.Proof.GateUpRefVal

@[expose] public section

set_option maxRecDepth 16384

noncomputable section

namespace Cert.GateUpIdeal.Gen

open Idealize.ShloMosaic Idealize.ShloMosaic.TcCoe Idealize.SL.Sem
open Idealize.ShloMosaic.Pipeline (Dat RDat)
open Cert.Spec

variable (m : (ℓ : Loc nD τ sig) → Buf (Elt Ideal) ℓ) (ρ : Dev nD → PrngReg)

/-- An output array whose every block written back meets its relation is the array of the quantised rows. -/
theorem final6 (c : Dev nD) (after : (w : Fin cfg0.W) → Fin cfg0.N → (cfg0.win w).block.Idx → Elt Ideal (cfg0.win w).elt)
    (h : ∀ t, (cfg0.win 6).flush t = true → Rl m c 6 t (after 6 t)) (G : Vec Ideal S2048x3584 .fp8e4m3)
    (hG : ∀ (R : Fin 2048) (J : Fin 3584), G (ix2 R J) = quant (valAt m c R J) (scaleOf (amax (valAt m c R)))) :
    ((rdat m c).withAfter after).arrAt 6 cfg0.N = G := by
  refine ((rdat m c).withAfter after).arrAt_eq_of_covers 6 G (by decide +kernel) fun t hf y => ?_
  have hR := h t hf ((flush0_6 t).mp hf)
  blk_simp
  have he : ((win0_6.blk t).view.emb y : S2048x3584.Idx) = ix2 (rowIx t (y 0)) (y 1) := by
    blk_ext <;> simp [idx t]
  have e1 : after 6 t y = after 6 t (ix2 (y 0) (y 1) : S1024x3584.Idx) := congrArg (after 6 t) (eq_ix2 (n0 := 1024) (n1 := 3584) y)
  exact (e1.trans (hR (y 0) (y 1))).trans ((congrArg G he).trans (hG (rowIx t (y 0)) (y 1))).symm

/-- An output array whose every block written back meets its relation is the array of the rows' scales. -/
theorem final7 (c : Dev nD) (after : (w : Fin cfg0.W) → Fin cfg0.N → (cfg0.win w).block.Idx → Elt Ideal (cfg0.win w).elt)
    (h : ∀ t, (cfg0.win 7).flush t = true → Rl m c 7 t (after 7 t)) (G : Vec Ideal S2048x1 .f32)
    (hG : ∀ R : Fin 2048, G (ix2 R 0) = scaleOf (amax (valAt m c R))) :
    ((rdat m c).withAfter after).arrAt 7 cfg0.N = G := by
  refine ((rdat m c).withAfter after).arrAt_eq_of_covers 7 G (by decide +kernel) fun t hf y => ?_
  have hR := h t hf ((flush0_7 t).mp hf)
  have h1 : (y 1).val < 1 := (y 1).isLt
  have hy : (y : S1024x1.Idx) = ix2 (y 0) 0 :=
    (eq_ix2 (n0 := 1024) (n1 := 1) y).trans (congrArg (fun z => (ix2 (y 0) z : S1024x1.Idx)) (Fin.ext (Nat.lt_one_iff.mp h1)))
  blk_simp
  have he : ((win0_7.blk t).view.emb y : S2048x1.Idx) = ix2 (rowIx t (y 0)) 0 := by
    rw [hy]
    blk_ext <;> simp [idx t]
  have e1 : after 7 t y = after 7 t (ix2 (y 0) 0 : S1024x1.Idx) := congrArg (after 7 t) hy
  exact (e1.trans (hR (y 0))).trans ((congrArg G he).trans (hG (rowIx t (y 0)))).symm

/-- THE RUN: every final state has the reference's results of the arguments in the two output arrays, the arguments as launched, and the
    semaphore counters at zero. -/
theorem run : θ_run defs (onTc (τ := τ) (main (F := Ideal))) ⟨m, fun _ => 0, ρ⟩ (fun r => (∀ c : Dev nD,
      (r.2.mem ((c.tc : Thread nD τ).loc main_v2_0) = GateUpRefIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v2_1) = GateUpRefIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) := by
  refine (θ_run defs _ _).mono (fun r h => ⟨fun c => ?_, h.2⟩) (run_main m ρ)
  obtain ⟨after, hL, hA⟩ := RDat.FramePost.exists_exact h.1 c
  refine ⟨⟨(hA 6).trans (final6 m c after (fun t hf => (dat m c).toRRel_leaves rfl (hL 6 t hf)) _ fun R J => ?_),
      (hA 7).trans (final7 m c after (fun t hf => (dat m c).toRRel_leaves rfl (hL 7 t hf)) _ fun R => ?_)⟩,
    (RDat.FramePost.arr_in h.1 c 0 rfl).trans ((A_eq m c 0).trans (V_main_arg0 m c)),
    (RDat.FramePost.arr_in h.1 c 1 rfl).trans ((A_eq m c 1).trans (V_main_arg1 m c)),
    (RDat.FramePost.arr_in h.1 c 2 rfl).trans ((A_eq m c 2).trans (V_main_arg2 m c)),
    (RDat.FramePost.arr_in h.1 c 3 rfl).trans ((A_eq m c 3).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩
  · exact GateUpRefIdeal.Gen.act_at _ _ _ _ _ _ R J
  · exact GateUpRefIdeal.Gen.scale_at _ _ _ _ _ _ R

end Cert.GateUpIdeal.Gen

end
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.GateUpRefIdeal.Value
public import proofs.«01_k».proof.Proof.Gen.DownRefIdeal.Value
public import proofs.«01_k».proof.Proof.GateUpFrame
public import proofs.«01_k».proof.Proof.DownFrame
public import proofs.«01_k».proof.Proof.DownValue
public import proofs.«01_k».proof.Proof.GateUpValue
public import Idealize.ShloMosaic.Adequacy
public import Idealize.ShloMosaic.Init

@[expose] public section

noncomputable section

namespace Cert.Proof

open Idealize.ShloMosaic Idealize.ShloMosaic.TcCoe Idealize.SL.Sem

attribute [local instance] Cert.GateUp.Gen.facts Cert.GateUpIdeal.Gen.facts Cert.GateUpRefIdeal.Gen.facts Cert.Down.Gen.facts
  Cert.DownIdeal.Gen.facts Cert.DownRefIdeal.Gen.facts

/-- The gate-and-up kernel computes its reference's two results, over the extended reals. -/
theorem algebraic_GateUp : Cert.algebraic_GateUpIdeal_GateUpRefIdeal := by
  intro m g m' g' _ hm
  refine ⟨fun c => Cert.GateUpRefIdeal.Value.G6 (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)), fun c => Cert.GateUpRefIdeal.Value.G7 (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)), ?_, ?_⟩
  · refine (θ_run _ _ _).mono (fun r h c => ?_) (Cert.GateUpIdeal.Gen.run m g)
    exact ⟨(h.1 c).1.1, (h.1 c).1.2, (h.1 c).2⟩
  · refine (θ_run _ _ _).mono (fun r h c => ?_) (Cert.GateUpRefIdeal.Value.run m' g')
    obtain ⟨e0, e1, e2, e3, e4, e5⟩ := hm c
    obtain ⟨r0, r1, hk⟩ := h c
    refine ⟨r0.trans ?_, r1.trans ?_, hk⟩
    · rw [e0, e1, e2, e3, e4, e5]
    · rw [e0, e1, e2, e3, e4, e5]

/-- Its frame, over the extended reals. -/
theorem frame_GateUpIdeal : Cert.quiescent_GateUpIdeal := fun m g _ =>
  (θ_run _ _ _).mono (fun r h => ⟨fun c => (h.1 c).2, h.2⟩) (Cert.GateUpIdeal.Gen.run m g)

/-- The down kernel computes its reference's two results, over the extended reals. -/
theorem algebraic_Down : Cert.algebraic_DownIdeal_DownRefIdeal := by
  intro m g m' g' _ hm
  refine ⟨fun c => Cert.DownRefIdeal.Value.G4 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), fun c => Cert.DownRefIdeal.Value.G5 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), ?_, ?_⟩
  · refine (θ_run _ _ _).mono (fun r h c => ?_) (Cert.DownIdeal.Gen.run m g)
    exact ⟨(h.1 c).1.1, (h.1 c).1.2, (h.1 c).2⟩
  · refine (θ_run _ _ _).mono (fun r h c => ?_) (Cert.DownRefIdeal.Value.run m' g')
    obtain ⟨e0, e1, e2, e3⟩ := hm c
    obtain ⟨r0, r1, hk⟩ := h c
    refine ⟨r0.trans ?_, r1.trans ?_, hk⟩
    · rw [e0, e1, e2, e3]
    · rw [e0, e1, e2, e3]

/-- Its frame, over the extended reals. -/
theorem frame_DownIdeal : Cert.quiescent_DownIdeal := fun m g _ =>
  (θ_run _ _ _).mono (fun r h => ⟨fun c => (h.1 c).2, h.2⟩) (Cert.DownIdeal.Gen.run m g)

theorem claim : Cert.Claim := ⟨Cert.GateUp.Gen.facts, Cert.GateUpIdeal.Gen.facts, Cert.GateUpRefIdeal.Gen.facts, Cert.Down.Gen.facts, Cert.DownIdeal.Gen.facts, Cert.DownRefIdeal.Gen.facts,
  fun m ρ _ => Cert.GateUp.Gen.frame m ρ, frame_GateUpIdeal, fun m ρ _ => Cert.GateUpRefIdeal.Gen.frame m ρ,
  fun m ρ _ => Cert.Down.Gen.frame m ρ, frame_DownIdeal, fun m ρ _ => Cert.DownRefIdeal.Gen.frame m ρ,
  trivial, algebraic_GateUp, trivial, algebraic_Down⟩

end Cert.Proof

end
